-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)) (v3 : (c : Dev Cert.KernelIdeal.nD) → Buf (Elt Ideal) ((c.tc : Thread Cert.KernelIdeal.nD Cert.KernelIdeal.τ).loc Cert.KernelIdeal.main_v30_3)) (v4 : (c : Dev Cert.KernelIdeal.nD) → Buf (Elt Ideal) ((c.tc : Thread Cert.KernelIdeal.nD Cert.KernelIdeal.τ).loc Cert.KernelIdeal.main_v30_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_v30_3) = v3 c
          ∧ r.2.mem ((c.tc : Thread Cert.KernelIdeal.nD Cert.KernelIdeal.τ).loc Cert.KernelIdeal.main_v30_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v142) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_keys.lean ====
abbrev S4x4096x1024 : Shape := ⟨3, ![4, 4096, 1024]⟩
abbrev S1x1024 : Shape := ⟨2, ![1, 1024]⟩
abbrev S1x1024x3328 : Shape := ⟨3, ![1, 1024, 3328]⟩
abbrev S1x4x64 : Shape := ⟨3, ![1, 4, 64]⟩
abbrev S1x4x128x128 : Shape := ⟨4, ![1, 4, 128, 128]⟩
abbrev S1x4x128 : Shape := ⟨3, ![1, 4, 128]⟩
abbrev S1x64 : Shape := ⟨2, ![1, 64]⟩
abbrev S4x256x256 : Shape := ⟨3, ![4, 256, 256]⟩
abbrev S_ : Shape := ⟨0, ![]⟩

class Facts : Prop where
  bcast_S_S1x64 : S_.BroadcastsInDim S1x64 (![] : Fin 0 → Fin S1x64.rank)
  bcast_S_S4x256x256 : S_.BroadcastsInDim S4x256x256 (![] : Fin 0 → Fin S4x256x256.rank)

variable [Facts]

def fn {F : FTy → Type} [FloatOps F] (main_arg0 : FVec F S4x4096x1024 .f32) (main_arg1 : FVec F S1x1024 .f32) (main_arg2 : FVec F S1x1024x3328 .f32) (main_arg3 : FVec F S1x4x64 .f32) (main_arg4 : FVec F S1x4x128x128 .f32) (main_arg5 : FVec F S1x4x128 .f32) (main_arg6 : FVec F S1x64 .f32) (main_arg7 : FVec F S1x64 .f32) (main_arg8 : FVec F S1x64 .f32) (main_arg9 : FVec F S4x256x256 .bf16) (main_arg10 : FVec F S4x256x256 .bf16) : IVec S1x64 1 × IVec S4x256x256 1 :=
  let main_v0 : FVec F S1x64 .f32 := Host.absf main_arg8
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S4x256x256 .bf16 := Host.absf main_arg9
  let main_cst_0 : FVec F S_ .bf16 := constant S_ .bf16 0x7F80#16
  let main_v4 : FVec F S4x256x256 .bf16 := broadcastInDim S4x256x256 ![] bcast_S_S4x256x256 main_cst_0
  let main_v5 : IVec S4x256x256 1 := cmpf .olt main_v3 main_v4
  (main_v2, main_v5)
-- ==== Kernel.lean ====
abbrev S4x4096x1024 : Shape := ⟨3, ![4, 4096, 1024]⟩
abbrev S1x1024 : Shape := ⟨2, ![1, 1024]⟩
abbrev S1x1024x3328 : Shape := ⟨3, ![1, 1024, 3328]⟩
abbrev S1x4x64 : Shape := ⟨3, ![1, 4, 64]⟩
abbrev S1x4x128x128 : Shape := ⟨4, ![1, 4, 128, 128]⟩
abbrev S1x4x128 : Shape := ⟨3, ![1, 4, 128]⟩
abbrev S1x64 : Shape := ⟨2, ![1, 64]⟩
abbrev S4x256x256 : Shape := ⟨3, ![4, 256, 256]⟩
abbrev S256x256 : Shape := ⟨2, ![256, 256]⟩
abbrev S1024 : Shape := ⟨1, ![1024]⟩
abbrev S1024x3328 : Shape := ⟨2, ![1024, 3328]⟩
abbrev S4x64 : Shape := ⟨2, ![4, 64]⟩
abbrev S1x256 : Shape := ⟨2, ![1, 256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S64 : Shape := ⟨1, ![64]⟩
abbrev S8x64 : Shape := ⟨2, ![8, 64]⟩
abbrev S512 : Shape := ⟨1, ![512]⟩
abbrev S_ : Shape := ⟨0, ![]⟩
abbrev S1x512 : Shape := ⟨2, ![1, 512]⟩
abbrev S256 : Shape := ⟨1, ![256]⟩
abbrev S4x4096x512 : Shape := ⟨3, ![4, 4096, 512]⟩
abbrev S4x4x4096x128 : Shape := ⟨4, ![4, 4, 4096, 128]⟩
abbrev S1x512x1024 : Shape := ⟨3, ![1, 512, 1024]⟩
abbrev S1x256x256 : Shape := ⟨3, ![1, 256, 256]⟩
abbrev S1x512x512 : Shape := ⟨3, ![1, 512, 512]⟩
abbrev S1x4x512x128 : Shape := ⟨4, ![1, 4, 512, 128]⟩
abbrev S512x1024 : Shape := ⟨2, ![512, 1024]⟩
abbrev S512x1 : Shape := ⟨2, ![512, 1]⟩
abbrev S1x128 : Shape := ⟨2, ![1, 128]⟩
abbrev S1024x256 : Shape := ⟨2, ![1024, 256]⟩
abbrev S512x256 : Shape := ⟨2, ![512, 256]⟩
abbrev S512x128 : Shape := ⟨2, ![512, 128]⟩
abbrev S1x1x512x128 : Shape := ⟨4, ![1, 1, 512, 128]⟩
abbrev S1024x512 : Shape := ⟨2, ![1024, 512]⟩
abbrev S512x512 : Shape := ⟨2, ![512, 512]⟩
abbrev S128x128 : Shape := ⟨2, ![128, 128]⟩
abbrev S1x128x128 : Shape := ⟨3, ![1, 128, 128]⟩
abbrev S256x128 : Shape := ⟨2, ![256, 128]⟩
abbrev S1x512x256 : Shape := ⟨3, ![1, 512, 256]⟩
abbrev S1x256x128 : Shape := ⟨3, ![1, 256, 128]⟩
abbrev S1024x128 : Shape := ⟨2, ![1024, 128]⟩
abbrev S1024x1 : Shape := ⟨2, ![1024, 1]⟩
abbrev S1x512x128 : Shape := ⟨3, ![1, 512, 128]⟩

abbrev nBuf : Space → Nat
  | .hbm => 49
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3328, .f32⟩
  | .hbm, ⟨3, _⟩ => ⟨S1x4x64, .f32⟩
  | .hbm, ⟨4, _⟩ => ⟨S1x4x128x128, .f32⟩
  | .hbm, ⟨5, _⟩ => ⟨S1x4x128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S4x256x256, .bf16⟩
  | .hbm, ⟨10, _⟩ => ⟨S4x256x256, .bf16⟩
  | .hbm, ⟨11, _⟩ => ⟨S256x256, .bf16⟩
  | .hbm, ⟨12, _⟩ => ⟨S1024, .f32⟩
  | .hbm, ⟨13, _⟩ => ⟨S1x1024, .f32⟩
  | .hbm, ⟨14, _⟩ => ⟨S1024x3328, .f32⟩
  | .hbm, ⟨15, _⟩ => ⟨S1024x3328, .bf16⟩
  | .hbm, ⟨16, _⟩ => ⟨S4x64, .f32⟩
  | .hbm, ⟨17, _⟩ => ⟨S1x256, .f32⟩
  | .hbm, ⟨18, _⟩ => ⟨S4x128x128, .f32⟩
  | .hbm, ⟨19, _⟩ => ⟨S4x128, .f32⟩
  | .hbm, ⟨20, _⟩ => ⟨S128x4, .f32⟩
  | .hbm, ⟨21, _⟩ => ⟨S128x4x64, .f32⟩
  | .hbm, ⟨22, _⟩ => ⟨S128x256, .f32⟩
  | .hbm, ⟨23, _⟩ => ⟨S64, .f32⟩
  | .hbm, ⟨24, _⟩ => ⟨S1x64, .f32⟩
  | .hbm, ⟨25, _⟩ => ⟨S8x64, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S1x512, .f32⟩
  | .hbm, ⟨31, _⟩ => ⟨S64, .f32⟩
  | .hbm, ⟨32, _⟩ => ⟨S1x64, .f32⟩
  | .hbm, ⟨33, _⟩ => ⟨S8x64, .f32⟩
  | .hbm, ⟨34, _⟩ => ⟨S512, .f32⟩
  | .hbm, ⟨35, _⟩ => ⟨S1x512, .f32⟩
  | .hbm, ⟨36, _⟩ => ⟨S64, .f32⟩
  | .hbm, ⟨37, _⟩ => ⟨S1x64, .f32⟩
  | .hbm, ⟨38, _⟩ => ⟨S4x64, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S4x4096x512, .bf16⟩
  | .hbm, ⟨45, _⟩ => ⟨S4x4096x512, .bf16⟩
  | .hbm, ⟨46, _⟩ => ⟨S4x4x4096x128, .bf16⟩
  | .hbm, ⟨47, _⟩ => ⟨S4x4x4096x128, .bf16⟩
  | .hbm, ⟨48, _⟩ => ⟨S4x4x4096x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3328, .bf16⟩
  | .local _ .vmem, ⟨4, _⟩ => ⟨S1x256, .f32⟩
  | .local _ .vmem, ⟨5, _⟩ => ⟨S4x128x128, .f32⟩
  | .local _ .vmem, ⟨6, _⟩ => ⟨S128x256, .f32⟩
  | .local _ .vmem, ⟨7, _⟩ => ⟨S1x512, .f32⟩
  | .local _ .vmem, ⟨8, _⟩ => ⟨S1x512, .f32⟩
  | .local _ .vmem, ⟨9, _⟩ => ⟨S1x256, .f32⟩
  | .local _ .vmem, ⟨10, _⟩ => ⟨S256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x4x512x128, .bf16⟩
  | .local _ .vmem, ⟨20, _⟩ => ⟨S1x4x512x128, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S1x4x512x128, .bf16⟩
  | .local _ .vmem, ⟨24, _⟩ => ⟨S1x4x512x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev main_v30_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S4x4096x1024 : Shape := ⟨3, ![4, 4096, 1024]⟩
abbrev S1x1024 : Shape := ⟨2, ![1, 1024]⟩
abbrev S1x1024x3328 : Shape := ⟨3, ![1, 1024, 3328]⟩
abbrev S1x4x64 : Shape := ⟨3, ![1, 4, 64]⟩
abbrev S1x4x128x128 : Shape := ⟨4, ![1, 4, 128, 128]⟩
abbrev S1x4x128 : Shape := ⟨3, ![1, 4, 128]⟩
abbrev S1x64 : Shape := ⟨2, ![1, 64]⟩
abbrev S4x256x256 : Shape := ⟨3, ![4, 256, 256]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3328 : Shape := ⟨2, ![1024, 3328]⟩
abbrev S4x4096x3328 : Shape := ⟨3, ![4, 4096, 3328]⟩
abbrev S4x4096x256 : Shape := ⟨3, ![4, 4096, 256]⟩
abbrev S4x4096x512 : Shape := ⟨3, ![4, 4096, 512]⟩
abbrev S4x4096x4x64 : Shape := ⟨4, ![4, 4096, 4, 64]⟩
abbrev S4x64 : Shape := ⟨2, ![4, 64]⟩
abbrev S4x128x128 : Shape := ⟨3, ![4, 128, 128]⟩
abbrev S4x128 : Shape := ⟨2, ![4, 128]⟩
abbrev S4x4096x4 : Shape := ⟨3, ![4, 4096, 4]⟩
abbrev S4x4096x4x1 : Shape := ⟨4, ![4, 4096, 4, 1]⟩
abbrev S1x1x4x64 : Shape := ⟨4, ![1, 1, 4, 64]⟩
abbrev S4x32x128x4x64 : Shape := ⟨5, ![4, 32, 128, 4, 64]⟩
abbrev S128x128 : Shape := ⟨2, ![128, 128]⟩
abbrev S1x128x128 : Shape := ⟨3, ![1, 128, 128]⟩
abbrev S4x4x32x64x128 : Shape := ⟨5, ![4, 4, 32, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4x4096x8x64 : Shape := ⟨4, ![4, 4096, 8, 64]⟩
abbrev S64 : Shape := ⟨1, ![64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x256x4x64 : Shape := ⟨4, ![4, 256, 4, 64]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩
abbrev S4x4096x4x128 : Shape := ⟨4, ![4, 4096, 4, 128]⟩
abbrev S4x4x4096x128 : Shape := ⟨4, ![4, 4, 4096, 128]⟩

abbrev nBuf : Space → Nat
  | .hbm => 210
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x3328, .f32⟩
  | 3 => ⟨S1x4x64, .f32⟩
  | 4 => ⟨S1x4x128x128, .f32⟩
  | 5 => ⟨S1x4x128, .f32⟩
  | 6 => ⟨S1x64, .f32⟩
  | 7 => ⟨S1x64, .f32⟩
  | 8 => ⟨S1x64, .f32⟩
  | 9 => ⟨S4x256x256, .bf16⟩
  | 10 => ⟨S4x256x256, .bf16⟩
  | 11 => ⟨S1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S1024x3328, .f32⟩
  | 29 => ⟨S4x4096x3328, .f32⟩
  | 30 => ⟨S4x4096x256, .f32⟩
  | 31 => ⟨S4x4096x256, .f32⟩
  | 32 => ⟨S4x4096x256, .f32⟩
  | 33 => ⟨S4x4096x512, .f32⟩
  | 34 => ⟨S4x4096x512, .f32⟩
  | 35 => ⟨S4x4096x512, .f32⟩
  | 36 => ⟨S4x4096x512, .f32⟩
  | 37 => ⟨S4x4096x256, .f32⟩
  | 38 => ⟨S4x4096x256, .f32⟩
  | 39 => ⟨S4x4096x4x64, .f32⟩
  | 40 => ⟨S4x4096x4x64, .f32⟩
  | 41 => ⟨S4x64, .f32⟩
  | 42 => ⟨S4x128x128, .f32⟩
  | 43 => ⟨S4x128, .f32⟩
  | 44 => ⟨S4x4096x4x64, .f32⟩
  | 45 => ⟨S_, .f32⟩
  | 46 => ⟨S4x4096x4, .f32⟩
  | 47 => ⟨S4x4096x4x1, .f32⟩
  | 48 => ⟨S_, .f32⟩
  | 49 => ⟨S4x4096x4x1, .f32⟩
  | 50 => ⟨S4x4096x4x1, .f32⟩
  | 51 => ⟨S_, .f32⟩
  | 52 => ⟨S4x4096x4x1, .f32⟩
  | 53 => ⟨S4x4096x4x1, .f32⟩
  | 54 => ⟨S4x4096x4x1, .f32⟩
  | 55 => ⟨S4x4096x4x64, .f32⟩
  | 56 => ⟨S4x4096x4x64, .f32⟩
  | 57 => ⟨S1x1x4x64, .f32⟩
  | 58 => ⟨S4x4096x4x64, .f32⟩
  | 59 => ⟨S4x4096x4x64, .f32⟩
  | 60 => ⟨S4x32x128x4x64, .f32⟩
  | 61 => ⟨S_, .f32⟩
  | 62 => ⟨S128x128, .f32⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S_, .f32⟩
  | 70 => ⟨S128x128, .f32⟩
  | 71 => ⟨S128x128, .f32⟩
  | 72 => ⟨S1x128x128, .f32⟩
  | 73 => ⟨S4x128x128, .f32⟩
  | 74 => ⟨S4x128x128, .f32⟩
  | 75 => ⟨S4x4x32x64x128, .f32⟩
  | 76 => ⟨S4x32x128x4x64, .f32⟩
  | 77 => ⟨S128x4, .f32⟩
  | 78 => ⟨S128x4x1, .f32⟩
  | 79 => ⟨S1x1x128x4x1, .f32⟩
  | 80 => ⟨S4x32x128x4x64, .f32⟩
  | 81 => ⟨S4x32x128x4x64, .f32⟩
  | 82 => ⟨S4x4096x4x64, .f32⟩
  | 83 => ⟨S4x4096x4x64, .f32⟩
  | 84 => ⟨S4x4096x256, .f32⟩
  | 85 => ⟨S4x4096x256, .f32⟩
  | 86 => ⟨S4x4096x256, .f32⟩
  | 87 => ⟨S_, .f32⟩
  | 88 => ⟨S4x4096x256, .f32⟩
  | 89 => ⟨S4x4096x256, .f32⟩
  | 90 => ⟨S_, .f32⟩
  | 91 => ⟨S4x4096x256, .f32⟩
  | 92 => ⟨S4x4096x256, .f32⟩
  | 93 => ⟨S4x4096x256, .f32⟩
  | 94 => ⟨S4x4096x256, .f32⟩
  | 95 => ⟨S4x4096x8x64, .f32⟩
  | 96 => ⟨S64, .f32⟩
  | 97 => ⟨S4x4096x8x64, .f32⟩
  | 98 => ⟨S_, .f32⟩
  | 99 => ⟨S4x4096x8, .f32⟩
  | 100 => ⟨S4x4096x8x1, .f32⟩
  | 101 => ⟨S_, .f32⟩
  | 102 => ⟨S4x4096x8x1, .f32⟩
  | 103 => ⟨S4x4096x8x1, .f32⟩
  | 104 => ⟨S_, .f32⟩
  | 105 => ⟨S4x4096x8x1, .f32⟩
  | 106 => ⟨S4x4096x8x1, .f32⟩
  | 107 => ⟨S4x4096x8x1, .f32⟩
  | 108 => ⟨S4x4096x8x64, .f32⟩
  | 109 => ⟨S4x4096x8x64, .f32⟩
  | 110 => ⟨S1x1x1x64, .f32⟩
  | 111 => ⟨S4x4096x8x64, .f32⟩
  | 112 => ⟨S4x4096x8x64, .f32⟩
  | 113 => ⟨S4x4096x8x64, .f32⟩
  | 114 => ⟨S64, .f32⟩
  | 115 => ⟨S4x4096x8x64, .f32⟩
  | 116 => ⟨S_, .f32⟩
  | 117 => ⟨S4x4096x8, .f32⟩
  | 118 => ⟨S4x4096x8x1, .f32⟩
  | 119 => ⟨S_, .f32⟩
  | 120 => ⟨S4x4096x8x1, .f32⟩
  | 121 => ⟨S4x4096x8x1, .f32⟩
  | 122 => ⟨S_, .f32⟩
  | 123 => ⟨S4x4096x8x1, .f32⟩
  | 124 => ⟨S4x4096x8x1, .f32⟩
  | 125 => ⟨S4x4096x8x1, .f32⟩
  | 126 => ⟨S4x4096x8x64, .f32⟩
  | 127 => ⟨S4x4096x8x64, .f32⟩
  | _ => ⟨S4x4096x1024, .f32⟩

abbrev hbmTy0_1 (i : Nat) : BufTy := match i % 128 with
  | 0 => ⟨S1x1x1x64, .f32⟩
  | 1 => ⟨S4x4096x8x64, .f32⟩
  | 2 => ⟨S4x4096x8x64, .f32⟩
  | 3 => ⟨S4x4096x512, .f32⟩
  | 4 => ⟨S_, .f32⟩
  | 5 => ⟨S4x4096x512, .f32⟩
  | 6 => ⟨S4x4096x512, .f32⟩
  | 7 => ⟨S4x256x256, .f32⟩
  | 8 => ⟨S4x256x4x64, .f32⟩
  | 9 => ⟨S4x256x256, .f32⟩
  | 10 => ⟨S4x256x4x64, .f32⟩
  | 11 => ⟨S4x4096x4x64, .f32⟩
  | 12 => ⟨S64, .f32⟩
  | 13 => ⟨S4x4096x4x64, .f32⟩
  | 14 => ⟨S_, .f32⟩
  | 15 => ⟨S4x4096x4, .f32⟩
  | 16 => ⟨S4x4096x4x1, .f32⟩
  | 17 => ⟨S_, .f32⟩
  | 18 => ⟨S4x4096x4x1, .f32⟩
  | 19 => ⟨S4x4096x4x1, .f32⟩
  | 20 => ⟨S_, .f32⟩
  | 21 => ⟨S4x4096x4x1, .f32⟩
  | 22 => ⟨S4x4096x4x1, .f32⟩
  | 23 => ⟨S4x4096x4x1, .f32⟩
  | 24 => ⟨S4x4096x4x64, .f32⟩
  | 25 => ⟨S4x4096x4x64, .f32⟩
  | 26 => ⟨S1x1x1x64, .f32⟩
  | 27 => ⟨S4x4096x4x64, .f32⟩
  | 28 => ⟨S4x4096x4x64, .f32⟩
  | 29 => ⟨S4x4x4096x256, .f32⟩
  | 30 => ⟨S_, .f32⟩
  | 31 => ⟨S4x4x4096x256, .f32⟩
  | 32 => ⟨S4x4x4096x256, .f32⟩
  | 33 => ⟨S_, .f32⟩
  | 34 => ⟨S4x4x4096, .f32⟩
  | 35 => ⟨S_, .f32⟩
  | 36 => ⟨S4x4x4096, .f32⟩
  | 37 => ⟨S4x4x4096, .f32⟩
  | 38 => ⟨S4x4x4096x1, .f32⟩
  | 39 => ⟨S4x4x4096x256, .f32⟩
  | 40 => ⟨S4x4x4096x256, .f32⟩
  | 41 => ⟨S4x4x4096x256, .f32⟩
  | 42 => ⟨S_, .f32⟩
  | 43 => ⟨S4x4x4096, .f32⟩
  | 44 => ⟨S4x4x4096x1, .f32⟩
  | 45 => ⟨S4x4x4096x256, .f32⟩
  | 46 => ⟨S4x4x4096x256, .f32⟩
  | 47 => ⟨S4x4x64x4096, .f32⟩
  | 48 => ⟨S4x4096x4x64, .f32⟩
  | 49 => ⟨S4x4096x256, .f32⟩
  | 50 => ⟨S4x4096x256, .f32⟩
  | 51 => ⟨S4x4096x256, .f32⟩
  | 52 => ⟨S_, .f32⟩
  | 53 => ⟨S4x4096x256, .f32⟩
  | 54 => ⟨S4x4096x256, .f32⟩
  | 55 => ⟨S_, .f32⟩
  | 56 => ⟨S4x4096x256, .f32⟩
  | 57 => ⟨S4x4096x256, .f32⟩
  | 58 => ⟨S4x4096x256, .f32⟩
  | 59 => ⟨S4x4096x256, .f32⟩
  | 60 => ⟨S4x4096x512, .f32⟩
  | 61 => ⟨S4x4096x512, .bf16⟩
  | 62 => ⟨S4x4096x512, .f32⟩
  | 63 => ⟨S4x4096x512, .f32⟩
  | 64 => ⟨S_, .f32⟩
  | 65 => ⟨S4x4096x512, .f32⟩
  | 66 => ⟨S4x4096x512, .f32⟩
  | 67 => ⟨S_, .f32⟩
  | 68 => ⟨S4x4096x512, .f32⟩
  | 69 => ⟨S4x4096x512, .f32⟩
  | 70 => ⟨S4x4096x512, .f32⟩
  | 71 => ⟨S4x4096x512, .bf16⟩
  | 72 => ⟨S4x4096x4x128, .f32⟩
  | 73 => ⟨S4x4x4096x128, .f32⟩
  | 74 => ⟨S4x4x4096x128, .bf16⟩
  | 75 => ⟨S4x4096x512, .f32⟩
  | 76 => ⟨S4x4096x4x128, .f32⟩
  | 77 => ⟨S4x4x4096x128, .f32⟩
  | 78 => ⟨S4x4x4096x128, .bf16⟩
  | 79 => ⟨S4x4096x4x128, .f32⟩
  | 80 => ⟨S4x4x4096x128, .f32⟩
  | 81 => ⟨S4x4x4096x128, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_cst : Ref sig .tc := ⟨.hbm, 69, rfl⟩
abbrev main_call0_v5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_6 : Ref sig .tc := ⟨.hbm, 98, rfl⟩
abbrev main_v64 : Ref sig .tc := ⟨.hbm, 99, rfl⟩
abbrev main_v65 : Ref sig .tc := ⟨.hbm, 100, rfl⟩
abbrev main_cst_7 : Ref sig .tc := ⟨.hbm, 101, rfl⟩
abbrev main_v66 : Ref sig .tc := ⟨.hbm, 102, rfl⟩
abbrev main_v67 : Ref sig .tc := ⟨.hbm, 103, rfl⟩
abbrev main_cst_8 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_9 : Ref sig .tc := ⟨.hbm, 116, rfl⟩
abbrev main_v79 : Ref sig .tc := ⟨.hbm, 117, rfl⟩
abbrev main_v80 : Ref sig .tc := ⟨.hbm, 118, rfl⟩
abbrev main_cst_10 : Ref sig .tc := ⟨.hbm, 119, rfl⟩
abbrev main_v81 : Ref sig .tc := ⟨.hbm, 120, rfl⟩
abbrev main_v82 : Ref sig .tc := ⟨.hbm, 121, rfl⟩
abbrev main_cst_11 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_12 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_13 : Ref sig .tc := ⟨.hbm, 142, rfl⟩
abbrev main_v101 : Ref sig .tc := ⟨.hbm, 143, rfl⟩
abbrev main_v102 : Ref sig .tc := ⟨.hbm, 144, rfl⟩
abbrev main_cst_14 : Ref sig .tc := ⟨.hbm, 145, rfl⟩
abbrev main_v103 : Ref sig .tc := ⟨.hbm, 146, rfl⟩
abbrev main_v104 : Ref sig .tc := ⟨.hbm, 147, rfl⟩
abbrev main_cst_15 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_16 : Ref sig .tc := ⟨.hbm, 158, rfl⟩
abbrev main_v114 : Ref sig .tc := ⟨.hbm, 159, rfl⟩
abbrev main_v115 : Ref sig .tc := ⟨.hbm, 160, rfl⟩
abbrev main_cst_17 : Ref sig .tc := ⟨.hbm, 161, rfl⟩
abbrev main_v116 : Ref sig .tc := ⟨.hbm, 162, rfl⟩
abbrev main_cst_18 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_19 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_call2_v0 : Ref sig .tc := ⟨.hbm, 178, rfl⟩
abbrev main_call2_v1 : Ref sig .tc := ⟨.hbm, 179, rfl⟩
abbrev main_call2_cst : Ref sig .tc := ⟨.hbm, 180, rfl⟩
abbrev main_call2_v2 : Ref sig .tc := ⟨.hbm, 181, rfl⟩
abbrev main_call2_v3 : Ref sig .tc := ⟨.hbm, 182, rfl⟩
abbrev main_call2_cst_0 : Ref sig .tc := ⟨.hbm, 183, rfl⟩
abbrev main_call2_v4 : Ref sig .tc := ⟨.hbm, 184, rfl⟩
abbrev main_call2_v5 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_call3_v0 : Ref sig .tc := ⟨.hbm, 190, rfl⟩
abbrev main_call3_v1 : Ref sig .tc := ⟨.hbm, 191, rfl⟩
abbrev main_call3_cst : Ref sig .tc := ⟨.hbm, 192, rfl⟩
abbrev main_call3_v2 : Ref sig .tc := ⟨.hbm, 193, rfl⟩
abbrev main_call3_v3 : Ref sig .tc := ⟨.hbm, 194, rfl⟩
abbrev main_call3_cst_0 : Ref sig .tc := ⟨.hbm, 195, rfl⟩
abbrev main_call3_v4 : Ref sig .tc := ⟨.hbm, 196, rfl⟩
abbrev main_call3_v5 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S4x4x4096x128 : Shape := ⟨4, ![4, 4, 4096, 128]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x512x512 : Shape := ⟨3, ![1, 512, 512]⟩
abbrev S1x4x512x128 : Shape := ⟨4, ![1, 4, 512, 128]⟩
abbrev S1x512x256 : Shape := ⟨3, ![1, 512, 256]⟩
abbrev S512x256 : Shape := ⟨2, ![512, 256]⟩
abbrev S1x1x512x128 : Shape := ⟨4, ![1, 1, 512, 128]⟩
abbrev S512x128 : Shape := ⟨2, ![512, 128]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4x4096x128, .bf16⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x4x512x128, .bf16⟩
  | .local _ .vmem, ⟨5, _⟩ => ⟨S1x4x512x128, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x4096x1024 : Shape := ⟨3, ![4, 4096, 1024]⟩
abbrev S4x4096x512 : Shape := ⟨3, ![4, 4096, 512]⟩
abbrev S4x4x4096x128 : Shape := ⟨4, ![4, 4, 4096, 128]⟩
abbrev S1x1024x1024 : Shape := ⟨3, ![1, 1024, 1024]⟩
abbrev S4x4096x4x128 : Shape := ⟨4, ![4, 4096, 4, 128]⟩
abbrev S4x4096x256 : Shape := ⟨3, ![4, 4096, 256]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4x4096x128, .bf16⟩
  | .hbm, ⟨3, _⟩ => ⟨S1x1024x1024, .f32⟩
  | .hbm, ⟨4, _⟩ => ⟨S4x4096x512, .f32⟩
  | .hbm, ⟨5, _⟩ => ⟨S4x4x4096x128, .f32⟩
  | .hbm, ⟨6, _⟩ => ⟨S4x4096x4x128, .f32⟩
  | .hbm, ⟨7, _⟩ => ⟨S4x4096x512, .f32⟩
  | .hbm, ⟨8, _⟩ => ⟨S4x4096x256, .f32⟩
  | .hbm, ⟨9, _⟩ => ⟨S4x4096x256, .f32⟩
  | .hbm, ⟨10, _⟩ => ⟨S4x4096x1024, .f32⟩
  | .hbm, ⟨11, _⟩ => ⟨S1024x1024, .f32⟩
  | .hbm, ⟨12, _⟩ => ⟨S4x4096x1024, .f32⟩
  | .hbm, ⟨13, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel3.lean ====
abbrev S4x256x1024 : Shape := ⟨3, ![4, 256, 1024]⟩
abbrev S1x1024 : Shape := ⟨2, ![1, 1024]⟩
abbrev S1x1024x512 : Shape := ⟨3, ![1, 1024, 512]⟩
abbrev S1x64 : Shape := ⟨2, ![1, 64]⟩
abbrev S256x256 : Shape := ⟨2, ![256, 256]⟩
abbrev S1024 : Shape := ⟨1, ![1024]⟩
abbrev S1024x512 : Shape := ⟨2, ![1024, 512]⟩
abbrev S64 : Shape := ⟨1, ![64]⟩
abbrev S4x64 : Shape := ⟨2, ![4, 64]⟩
abbrev S256 : Shape := ⟨1, ![256]⟩
abbrev S1x256 : Shape := ⟨2, ![1, 256]⟩
abbrev S4x256x256 : Shape := ⟨3, ![4, 256, 256]⟩
abbrev S1x256x1024 : Shape := ⟨3, ![1, 256, 1024]⟩
abbrev S1x256x256 : Shape := ⟨3, ![1, 256, 256]⟩
abbrev S256x1024 : Shape := ⟨2, ![256, 1024]⟩
abbrev S256x1 : Shape := ⟨2, ![256, 1]⟩
abbrev S256x512 : Shape := ⟨2, ![256, 512]⟩

abbrev nBuf : Space → Nat
  | .hbm => 16
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x512, .f32⟩
  | .hbm, ⟨3, _⟩ => ⟨S1x64, .f32⟩
  | .hbm, ⟨4, _⟩ => ⟨S256x256, .bf16⟩
  | .hbm, ⟨5, _⟩ => ⟨S1024, .f32⟩
  | .hbm, ⟨6, _⟩ => ⟨S1x1024, .f32⟩
  | .hbm, ⟨7, _⟩ => ⟨S1024x512, .f32⟩
  | .hbm, ⟨8, _⟩ => ⟨S1024x512, .bf16⟩
  | .hbm, ⟨9, _⟩ => ⟨S64, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S4x256x256, .bf16⟩
  | .hbm, ⟨15, _⟩ => ⟨S4x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x256x1024 : Shape := ⟨3, ![4, 256, 1024]⟩
abbrev S1x1024 : Shape := ⟨2, ![1, 1024]⟩
abbrev S1x1024x512 : Shape := ⟨3, ![1, 1024, 512]⟩
abbrev S1x64 : Shape := ⟨2, ![1, 64]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x512 : Shape := ⟨2, ![1024, 512]⟩
abbrev S4x256x512 : Shape := ⟨3, ![4, 256, 512]⟩
abbrev S4x256x256 : Shape := ⟨3, ![4, 256, 256]⟩
abbrev S4x256x4x64 : Shape := ⟨4, ![4, 256, 4, 64]⟩
abbrev S64 : Shape := ⟨1, ![64]⟩
abbrev S4x256x4 : Shape := ⟨3, ![4, 256, 4]⟩
abbrev S4x256x4x1 : Shape := ⟨4, ![4, 256, 4, 1]⟩
abbrev S1x1x1x64 : Shape := ⟨4, ![1, 1, 1, 64]⟩

abbrev nBuf : Space → Nat
  | .hbm => 46
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x512, .f32⟩
  | .hbm, ⟨3, _⟩ => ⟨S1x64, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x512, .f32⟩
  | .hbm, ⟨22, _⟩ => ⟨S4x256x512, .f32⟩
  | .hbm, ⟨23, _⟩ => ⟨S4x256x256, .f32⟩
  | .hbm, ⟨24, _⟩ => ⟨S4x256x256, .f32⟩
  | .hbm, ⟨25, _⟩ => ⟨S4x256x4x64, .f32⟩
  | .hbm, ⟨26, _⟩ => ⟨S64, .f32⟩
  | .hbm, ⟨27, _⟩ => ⟨S4x256x4x64, .f32⟩
  | .hbm, ⟨28, _⟩ => ⟨S_, .f32⟩
  | .hbm, ⟨29, _⟩ => ⟨S4x256x4, .f32⟩
  | .hbm, ⟨30, _⟩ => ⟨S4x256x4x1, .f32⟩
  | .hbm, ⟨31, _⟩ => ⟨S_, .f32⟩
  | .hbm, ⟨32, _⟩ => ⟨S4x256x4x1, .f32⟩
  | .hbm, ⟨33, _⟩ => ⟨S4x256x4x1, .f32⟩
  | .hbm, ⟨34, _⟩ => ⟨S_, .f32⟩
  | .hbm, ⟨35, _⟩ => ⟨S4x256x4x1, .f32⟩
  | .hbm, ⟨36, _⟩ => ⟨S4x256x4x1, .f32⟩
  | .hbm, ⟨37, _⟩ => ⟨S4x256x4x1, .f32⟩
  | .hbm, ⟨38, _⟩ => ⟨S4x256x4x64, .f32⟩
  | .hbm, ⟨39, _⟩ => ⟨S4x256x4x64, .f32⟩
  | .hbm, ⟨40, _⟩ => ⟨S1x1x1x64, .f32⟩
  | .hbm, ⟨41, _⟩ => ⟨S4x256x4x64, .f32⟩
  | .hbm, ⟨42, _⟩ => ⟨S4x256x4x64, .f32⟩
  | .hbm, ⟨43, _⟩ => ⟨S4x256x256, .f32⟩
  | .hbm, ⟨44, _⟩ => ⟨S4x256x256, .bf16⟩
  | .hbm, ⟨45, _⟩ => ⟨S4x256x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Shared.lean ====
/- Laws over the extended reals that several of the calls use: a real factor through a sum, the mean over a head of 64
   lanes as a product with the block-diagonal matrix, the constants. -/
module

public import Idealize.ShloMosaic.Lib.Pointwise
public import Idealize.ShloMosaic.PureOps.Ideal

@[expose] public section

set_option maxRecDepth 16384

noncomputable section

namespace Cert.Proof.Shared

open Idealize.ShloMosaic

/-- A nonnegative real factor distributes over a sum of two extended reals. -/
theorem add_mul_coe (x y : EReal) {c : ℝ} (hc : 0 ≤ c) : (x + y) * (c : EReal) = x * (c : EReal) + y * (c : EReal) :=
  EReal.right_distrib_of_nonneg_of_ne_top (by exact_mod_cast hc) (EReal.coe_ne_top c) x y

/-- and over a finite sum. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih => rw [Finset.sum_insert ha, Finset.sum_insert ha, add_mul_coe _ _ hc, ih]

/-- Lane `d` of head `h` among four heads of 64 lanes. -/
def lane (h : Fin 4) (d : Fin 64) : Fin 256 := ⟨h.val * 64 + d.val, by omega⟩

/-- A sum over 256 lanes that keeps one head's lanes is the sum over that head. -/
theorem sum_head (f : Fin 256 → EReal) (h : Fin 4) :
    ∑ j : Fin 256, (if j.val / 64 = h.val then f j else 0) = ∑ d : Fin 64, f (lane h d) := by
  rw [← Finset.sum_filter]
  symm
  refine Finset.sum_bij (fun d _ => lane h d) ?_ ?_ ?_ ?_
  · intro d _
    simp only [Finset.mem_filter, Finset.mem_univ, true_and, lane]
    omega
  · intro a _ b _ e
    have := congrArg Fin.val e
    simp only [lane] at this
    exact Fin.ext (by omega)
  · intro j hj
    simp only [Finset.mem_filter, Finset.mem_univ, true_and] at hj
    exact ⟨⟨j.val - h.val * 64, by omega⟩, Finset.mem_univ _, Fin.ext (by simp only [lane]; omega)⟩
  · intros; rfl

theorem ofBits_64 : Ideal.ofBits .f32 0x42800000#32 = ((64 : ℝ) : EReal) := by
  simp [Ideal.ofBits, Ideal.ieee, -EReal.coe_mul]; norm_num

theorem ofBits_inv64 : Ideal.ofBits .bf16 0x3C80#16 = ((1 / 64 : ℝ) : EReal) := by
  simp [Ideal.ofBits, Ideal.ieee, -EReal.coe_mul]; norm_num

/-- The word of the block-diagonal matrix at `(j, i)`: 1/64 where the two lanes belong to one head. -/
def bdWord (j i : Nat) : BitVec 16 := if j / 64 = i / 64 then 0x3C80#16 else 0#16

/-- The product with the block-diagonal matrix is the mean over the lane's head. -/
theorem head_mean (f : Fin 256 → EReal) (h : Fin 4) (d : Fin 64) :
    ∑ j : Fin 256, f j * Ideal.ofBits .bf16 (bdWord j.val (h.val * 64 + d.val))
      = Ideal.div (∑ e : Fin 64, f (lane h e)) (Ideal.ofBits .f32 0x42800000#32) := by
  rw [ofBits_64, Ideal.div_coe (by norm_num), sum_mul_coe _ _ (by norm_num), ← sum_head (fun j => f j * ((1 / 64 : ℝ) : EReal))]
  refine Finset.sum_congr rfl fun j _ => ?_
  have e : (h.val * 64 + d.val) / 64 = h.val := by omega
  rw [bdWord, e]
  split
  · rw [ofBits_inv64]
  · rw [Ideal.ofBits_zero_bf16, mul_zero]

/-- The small number under each root. -/
abbrev eps : EReal := Ideal.ofBits .f32 0x358637BD#32

/-- A row of 1024 entries divided by its root mean square, times a gain. -/
def normRow (x g : Fin 1024 → EReal) (k : Fin 1024) : EReal :=
  x k * Ideal.rsqrt (Ideal.div (∑ j, x j * x j) (Ideal.ofBits .f32 0x44800000#32) + eps) * g k

/-- One over the root mean square of head `h` of a row of four heads. -/
def headScale (f : Fin 256 → EReal) (h : Fin 4) : EReal :=
  Ideal.rsqrt (Ideal.div (∑ e : Fin 64, f (lane h e) * f (lane h e)) (Ideal.ofBits .f32 0x42800000#32) + eps)

/-- The kernels compute it by a product with the block-diagonal matrix. -/
theorem headScale_eq (f : Fin 256 → EReal) (h : Fin 4) (d : Fin 64) :
    Ideal.rsqrt (∑ j : Fin 256, f j * f j * Ideal.ofBits .bf16 (bdWord j.val (h.val * 64 + d.val)) + eps) = headScale f h := by
  rw [head_mean (fun j => f j * f j) h d]; rfl

/-- The head of a lane, and its place there. -/
def headOf (i : Fin 256) : Fin 4 := ⟨i.val / 64, by omega⟩
def inHead (i : Fin 256) : Fin 64 := ⟨i.val % 64, by omega⟩

theorem headScale_at (f : Fin 256 → EReal) (i : Fin 256) :
    Ideal.rsqrt (∑ j : Fin 256, f j * f j * Ideal.ofBits .bf16 (bdWord j.val i.val) + eps) = headScale f (headOf i) := by
  have e : i.val = (headOf i).val * 64 + (inHead i).val := by simp only [headOf, inHead]; omega
  rw [e, headScale_eq]

end Cert.Proof.Shared

end
-- ==== Proof.Lit1.lean ====
/- The block-diagonal matrix that the program carries as a table of words: its word at row `j`, lane `i` is 1/64 where
   the two belong to one head of 64, else 0.  A leaf of the table is one of three rows of 128 words. -/
module

public import proofs.«01_k».proof.Defs
public import proofs.«01_k».proof.Proof.Shared
public import Mathlib.Tactic.IntervalCases

@[expose] public section

set_option maxRecDepth 16384

namespace Cert.KernelIdeal.BdTable

open Cert.Proof.Shared (bdWord)

/-- The words of a leaf whose first 64 entries are 1/64. -/
theorem leafA (i : Nat) : lit0t0_0 i = if i % 128 < 64 then 0x3C80#16 else 0#16 := by
  have h : i % 128 < 128 := Nat.mod_lt _ (by decide)
  unfold lit0t0_0
  generalize i % 128 = n at h ⊢
  interval_cases n <;> rfl

/-- The words of a leaf that is zero. -/
theorem leafZ (i : Nat) : lit0t0_1 i = 0#16 := by
  have h : i % 128 < 128 := Nat.mod_lt _ (by decide)
  unfold lit0t0_1
  generalize i % 128 = n at h ⊢
  interval_cases n <;> rfl

/-- The words of a leaf whose last 64 entries are 1/64. -/
theorem leafB (i : Nat) : lit0t0_128 i = if i % 128 < 64 then 0#16 else 0x3C80#16 := by
  have h : i % 128 < 128 := Nat.mod_lt _ (by decide)
  unfold lit0t0_128
  generalize i % 128 = n at h ⊢
  interval_cases n <;> rfl

/-- The leaves of rows 0 to 63. -/
theorem quarter0 (i : Nat) : lit0t1_0 i = if (i / 128 % 128) % 2 = 0 then lit0t0_0 i else lit0t0_1 i := by
  have h : i / 128 % 128 < 128 := Nat.mod_lt _ (by decide)
  unfold lit0t1_0
  generalize i / 128 % 128 = n at h ⊢
  interval_cases n <;> rfl

/-- The leaves of rows 64 to 127. -/
theorem quarter1 (i : Nat) : lit0t1_1 i = if (i / 128 % 128) % 2 = 0 then lit0t0_128 i else lit0t0_1 i := by
  have h : i / 128 % 128 < 128 := Nat.mod_lt _ (by decide)
  unfold lit0t1_1
  generalize i / 128 % 128 = n at h ⊢
  interval_cases n <;> rfl

/-- The leaves of rows 128 to 191. -/
theorem quarter2 (i : Nat) : lit0t1_2 i = if (i / 128 % 128) % 2 = 1 then lit0t0_0 i else lit0t0_1 i := by
  have h : i / 128 % 128 < 128 := Nat.mod_lt _ (by decide)
  unfold lit0t1_2
  generalize i / 128 % 128 = n at h ⊢
  interval_cases n <;> rfl

/-- The leaves of rows 192 to 255. -/
theorem quarter3 (i : Nat) : lit0t1_3 i = if (i / 128 % 128) % 2 = 1 then lit0t0_128 i else lit0t0_1 i := by
  have h : i / 128 % 128 < 128 := Nat.mod_lt _ (by decide)
  unfold lit0t1_3
  generalize i / 128 % 128 = n at h ⊢
  interval_cases n <;> rfl

/-- The table's word at row `j`, lane `i`. -/
theorem word (j i : Fin 256) : lit0t (j.val * 256 + i.val) = bdWord j.val i.val := by
  have h : (j.val * 256 + i.val) / 16384 = j.val / 64 := by omega
  have h1 : (j.val * 256 + i.val) / 128 % 128 % 2 = i.val / 128 := by omega
  have h2 : (j.val * 256 + i.val) % 128 = i.val % 128 := by omega
  have hj : j.val / 64 < 4 := by omega
  unfold lit0t bdWord
  rw [h]
  generalize hq : j.val / 64 = q at hj ⊢
  interval_cases q
  · refine (quarter0 _).trans ?_
    rw [leafA, leafZ, h1, h2]
    repeat' split
    all_goals first | rfl | (exfalso; omega)
  · refine (quarter1 _).trans ?_
    rw [leafB, leafZ, h1, h2]
    repeat' split
    all_goals first | rfl | (exfalso; omega)
  · refine (quarter2 _).trans ?_
    rw [leafA, leafZ, h1, h2]
    repeat' split
    all_goals first | rfl | (exfalso; omega)
  · refine (quarter3 _).trans ?_
    rw [leafB, leafZ, h1, h2]
    repeat' split
    all_goals first | rfl | (exfalso; omega)

end Cert.KernelIdeal.BdTable
-- ==== Proof.ProjBlocks.lean ====
/- The projection call (`kernel`): its blocks, and what its body computes of them at an index. -/
module

public import proofs.«01_k».proof.Defs
public import proofs.«01_k».proof.Proof.Gen.KernelIdeal.Value
public import proofs.«01_k».proof.Proof.Lit1
public import Idealize.ShloMosaic.Lib.Pipeline.ValueKit
public import Idealize.ShloMosaic.Lib.Pipeline.ReadBack
public import Idealize.ShloMosaic.Lib.Pointwise
public import Idealize.ShloMosaic.Lib.Tactic.ValueTie

@[expose] public section

set_option maxRecDepth 16384

noncomputable section

open Idealize.ShloMosaic Idealize.ShloMosaic.TcCoe Idealize.SL.Sem
open Idealize.ShloMosaic.Pipeline (Dat)
open Cert.Proof.Shared

namespace Cert.KernelIdeal.ProjValue

open Cert.KernelIdeal Cert.KernelIdeal.Gen

variable (m : (ℓ : Loc nD τ sig) → Buf (Elt Ideal) ℓ)

theorem idx : ∀ t : Fin grid0.N,
    win0_0.index t = ![t.val / 8, t.val % 8, 0] ∧ win0_1.index t = ![0, 0] ∧ win0_2.index t = ![0, 0] ∧ win0_3.index t = ![0, 0]
    ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![t.val / 8, 0, 0]
    ∧ win0_11.index t = ![t.val / 8, 0, 0] ∧ win0_12.index t = ![t.val / 8, t.val % 8, 0]
    ∧ win0_13.index t = ![t.val / 8, t.val % 8, 0] ∧ win0_14.index t = ![t.val / 8, 0, t.val % 8, 0]
    ∧ win0_15.index t = ![t.val / 8, 0, t.val % 8, 0] ∧ win0_16.index t = ![t.val / 8, 0, t.val % 8, 0] := by
  decide +kernel

/-- One over the root of the head width. -/
abbrev scale : EReal := Ideal.ofBits .f32 0x3E000000#32
def scaled (v : EReal) : EReal := v * scale

/-- The sequence that grid point `t` works on, and the rows of it. -/
def seqOf (t : Fin grid0.N) : Fin 4 := ⟨t.val / 8, by have := t.isLt; have h : grid0.N = 32 := N_0; omega⟩
def rowOf (t : Fin grid0.N) (r : Fin 512) : Fin 4096 := ⟨t.val % 8 * 512 + r.val, by omega⟩

/-- The block-diagonal matrix, as the program's line of host operations begins with it. -/
def table : (⟨S256x256, .bf16⟩ : BufTy).Contents (Elt Ideal) := fun i => FloatOps.ofBits (F := Ideal) .bf16 (lit0 (S256x256.rowMajor i))

/-- The line of host operations, over any matrix in that place. -/
def line (T : (⟨S256x256, .bf16⟩ : BufTy).Contents (Elt Ideal)) : List (HloOp τ sig (Elt Ideal)) :=
  [ StableHlo.nullary main_cst T,
    StableHlo.reshape main_arg1 main_v0 (rfl : (.f32 : EltTy) = .f32) shapeCasts_S1x1024_S1024,
    StableHlo.unary main_v0 main_v1 (broadcastInDim S1x1024 ![1] bcast_S1024_S1x1024_1 : (⟨S1024, .f32⟩ : BufTy).Contents (Elt Ideal) → (⟨S1x1024, .f32⟩ : BufTy).Contents (Elt Ideal)),
    StableHlo.reshape main_arg2 main_v2 (rfl : (.f32 : EltTy) = .f32) shapeCasts_S1x1024x3328_S1024x3328,
    StableHlo.unary main_v2 main_v3 ((truncf (F := Ideal) .bf16 · bitsLt_bf16_f32) : (⟨S1024x3328, .f32⟩ : BufTy).Contents (Elt Ideal) → (⟨S1024x3328, .bf16⟩ : BufTy).Contents (Elt Ideal)),
    StableHlo.reshape main_arg3 main_v4 (rfl : (.f32 : EltTy) = .f32) shapeCasts_S1x4x64_S4x64,
    StableHlo.reshape main_v4 main_v5 (rfl : (.f32 : EltTy) = .f32) shapeCasts_S4x64_S1x256,
    StableHlo.reshape main_arg4 main_v6 (rfl : (.f32 : EltTy) = .f32) shapeCasts_S1x4x128x128_S4x128x128,
    StableHlo.reshape main_arg5 main_v7 (rfl : (.f32 : EltTy) = .f32) shapeCasts_S1x4x128_S4x128,
    StableHlo.unary main_v7 main_v8 ((transpose S128x4 [1, 0] · transposes_S4x128_S128x4_1_0) : (⟨S4x128, .f32⟩ : BufTy).Contents (Elt Ideal) → (⟨S128x4, .f32⟩ : BufTy).Contents (Elt Ideal)),
    StableHlo.unary main_v8 main_v9 (broadcastInDim S128x4x64 ![0, 1] bcast_S128x4_S128x4x64_0_1 : (⟨S128x4, .f32⟩ : BufTy).Contents (Elt Ideal) → (⟨S128x4x64, .f32⟩ : BufTy).Contents (Elt Ideal)),
    StableHlo.reshape main_v9 main_v10 (rfl : (.f32 : EltTy) = .f32) shapeCasts_S128x4x64_S128x256,
    StableHlo.reshape main_arg6 main_v11 (rfl : (.f32 : EltTy) = .f32) shapeCasts_S1x64_S64,
    StableHlo.reshape main_v11 main_v12 (rfl : (.f32 : EltTy) = .f32) shapeCasts_S64_S1x64,
    StableHlo.unary main_v12 main_v13 (broadcastInDim S8x64 ![0, 1] bcast_S1x64_S8x64_0_1 : (⟨S1x64, .f32⟩ : BufTy).Contents (Elt Ideal) → (⟨S8x64, .f32⟩ : BufTy).Contents (Elt Ideal)),
    StableHlo.reshape main_v13 main_v14 (rfl : (.f32 : EltTy) = .f32) shapeCasts_S8x64_S512,
    StableHlo.nullary main_cst_0 (constant (F := Ideal) S_ .f32 0x3E000000#32),
    StableHlo.unary main_cst_0 main_v15 (broadcastInDim S512 ![] bcast_S_S512 : (⟨S_, .f32⟩ : BufTy).Contents (Elt Ideal) → (⟨S512, .f32⟩ : BufTy).Contents (Elt Ideal)),
    StableHlo.binary main_v14 main_v15 main_v16 (mulf (F := Ideal) (φ := .f32) : (⟨S512, .f32⟩ : BufTy).Contents (Elt Ideal) → (⟨S512, .f32⟩ : BufTy).Contents (Elt Ideal) → (⟨S512, .f32⟩ : BufTy).Contents (Elt Ideal)),
    StableHlo.unary main_v16 main_v17 (broadcastInDim S1x512 ![1] bcast_S512_S1x512_1 : (⟨S512, .f32⟩ : BufTy).Contents (Elt Ideal) → (⟨S1x512, .f32⟩ : BufTy).Contents (Elt Ideal)),
    StableHlo.reshape main_arg7 main_v18 (rfl : (.f32 : EltTy) = .f32) shapeCasts_S1x64_S64,
    StableHlo.reshape main_v18 main_v19 (rfl : (.f32 : EltTy) = .f32) shapeCasts_S64_S1x64,
    StableHlo.unary main_v19 main_v20 (broadcastInDim S8x64 ![0, 1] bcast_S1x64_S8x64_0_1 : (⟨S1x64, .f32⟩ : BufTy).Contents (Elt Ideal) → (⟨S8x64, .f32⟩ : BufTy).Contents (Elt Ideal)),
    StableHlo.reshape main_v20 main_v21 (rfl : (.f32 : EltTy) = .f32) shapeCasts_S8x64_S512,
    StableHlo.unary main_v21 main_v22 (broadcastInDim S1x512 ![1] bcast_S512_S1x512_1 : (⟨S512, .f32⟩ : BufTy).Contents (Elt Ideal) → (⟨S1x512, .f32⟩ : BufTy).Contents (Elt Ideal)),
    StableHlo.reshape main_arg8 main_v23 (rfl : (.f32 : EltTy) = .f32) shapeCasts_S1x64_S64,
    StableHlo.reshape main_v23 main_v24 (rfl : (.f32 : EltTy) = .f32) shapeCasts_S64_S1x64,
    StableHlo.unary main_v24 main_v25 (broadcastInDim S4x64 ![0, 1] bcast_S1x64_S4x64_0_1 : (⟨S1x64, .f32⟩ : BufTy).Contents (Elt Ideal) → (⟨S4x64, .f32⟩ : BufTy).Contents (Elt Ideal)),
    StableHlo.reshape main_v25 main_v26 (rfl : (.f32 : EltTy) = .f32) shapeCasts_S4x64_S256,
    StableHlo.nullary main_cst_1 (constant (F := Ideal) S_ .f32 0x3E000000#32),
    StableHlo.unary main_cst_1 main_v27 (broadcastInDim S256 ![] bcast_S_S256 : (⟨S_, .f32⟩ : BufTy).Contents (Elt Ideal) → (⟨S256, .f32⟩ : BufTy).Contents (Elt Ideal)),
    StableHlo.binary main_v26 main_v27 main_v28 (mulf (F := Ideal) (φ := .f32) : (⟨S256, .f32⟩ : BufTy).Contents (Elt Ideal) → (⟨S256, .f32⟩ : BufTy).Contents (Elt Ideal) → (⟨S256, .f32⟩ : BufTy).Contents (Elt Ideal)),
    StableHlo.unary main_v28 main_v29 (broadcastInDim S1x256 ![1] bcast_S256_S1x256_1 : (⟨S256, .f32⟩ : BufTy).Contents (Elt Ideal) → (⟨S1x256, .f32⟩ : BufTy).Contents (Elt Ideal)) ]

theorem V_eq (c : Dev nD) (b : Ref sig .tc) : V m c b = StableHlo.after (line table) (fun b => m (c, b)) b := rfl

theorem table_at (j i : Fin 256) : table (ix2 j i) = Ideal.ofBits .bf16 (bdWord j.val i.val) := by
  have h : (S256x256.rowMajor (ix2 j i)).val = j.val * 256 + i.val := Shape.rowMajor_val_two _
  have e : ∀ n : Fin 65536, n.val = j.val * 256 + i.val → lit0 n = bdWord j.val i.val := by
    intro n hn
    rw [← BdTable.word j i, ← hn]
  unfold table
  rw [e _ h]
  rfl

/-! ## The input blocks at an index -/

theorem blk_x (c : Dev nD) (t : Fin grid0.N) (r : Fin 512) (l : Fin 1024) :
    iblk m c 0 t (ix3 0 r l) = m ((c : Thread nD τ).loc main_arg0) (ix3 (seqOf t) (rowOf t r) l) := by
  unfold iblk
  blk_simp
  rw [V_main_arg0]
  blk_ext [idx t, seqOf, rowOf]
theorem blk_g (c : Dev nD) (t : Fin grid0.N) (l : Fin 1024) :
    iblk m c 1 t (ix2 0 l) = m ((c : Thread nD τ).loc main_arg1) (ix2 0 l) := by
  unfold iblk
  blk_simp
  rw [V_eq]; generalize table = T; unfold line
  entry_read
  pointwise
  blk_ext [idx t]
theorem blk_w (c : Dev nD) (t : Fin grid0.N) (k : Fin 1024) (l : Fin 3328) :
    iblk m c 2 t (ix2 k l) = m ((c : Thread nD τ).loc main_arg2) (ix3 0 k l) := by
  unfold iblk
  blk_simp
  rw [V_eq]; generalize table = T; unfold line
  entry_read
  pointwise
  blk_ext [idx t]
theorem blk_vg (c : Dev nD) (t : Fin grid0.N) (l : Fin 256) :
    iblk m c 3 t (ix2 0 l) = m ((c : Thread nD τ).loc main_arg3) (ix3 0 (headOf l) (inHead l)) := by
  unfold iblk
  blk_simp
  rw [V_eq]; generalize table = T; unfold line
  entry_read
  pointwise
  blk_ext [idx t, headOf, inHead]
theorem blk_ws (c : Dev nD) (t : Fin grid0.N) (h : Fin 4) (a b : Fin 128) :
    iblk m c 4 t (ix3 h a b) = m ((c : Thread nD τ).loc main_arg4) (ix4 0 h a b) := by
  unfold iblk
  blk_simp
  rw [V_eq]; generalize table = T; unfold line
  entry_read
  pointwise
  blk_ext [idx t]
theorem blk_gb (c : Dev nD) (t : Fin grid0.N) (a : Fin 128) (l : Fin 256) :
    iblk m c 5 t (ix2 a l) = m ((c : Thread nD τ).loc main_arg5) (ix3 0 (headOf l) a) := by
  unfold iblk
  blk_simp
  rw [V_eq]; generalize table = T; unfold line
  entry_read
  pointwise
  blk_ext [idx t, headOf]
theorem blk_qg (c : Dev nD) (t : Fin grid0.N) (l : Fin 512) :
    iblk m c 6 t (ix2 0 l) = scaled (m ((c : Thread nD τ).loc main_arg6) (ix2 0 ⟨l.val % 64, by omega⟩)) := by
  unfold iblk
  blk_simp
  rw [V_eq]; generalize table = T; unfold line
  entry_read
  pointwise
  unfold scaled
  congr 1
  blk_ext [idx t, inHead]
theorem blk_kg (c : Dev nD) (t : Fin grid0.N) (l : Fin 512) :
    iblk m c 7 t (ix2 0 l) = m ((c : Thread nD τ).loc main_arg7) (ix2 0 ⟨l.val % 64, by omega⟩) := by
  unfold iblk
  blk_simp
  rw [V_eq]; generalize table = T; unfold line
  entry_read
  pointwise
  blk_ext [idx t]
theorem blk_mg (c : Dev nD) (t : Fin grid0.N) (l : Fin 256) :
    iblk m c 8 t (ix2 0 l) = scaled (m ((c : Thread nD τ).loc main_arg8) (ix2 0 (inHead l))) := by
  unfold iblk
  blk_simp
  rw [V_eq]; generalize table = T; unfold line
  entry_read
  pointwise
  unfold scaled
  congr 1
  blk_ext [idx t, inHead]
theorem blk_bd (c : Dev nD) (t : Fin grid0.N) (j i : Fin 256) :
    iblk m c 9 t (ix2 j i) = Ideal.ofBits .bf16 (bdWord j.val i.val) := by
  rw [← table_at]
  unfold iblk
  blk_simp
  rw [V_eq]; generalize table = T; unfold line
  entry_read
  blk_ext [idx t]
theorem blk_mk (c : Dev nD) (t : Fin grid0.N) (k l : Fin 256) :
    iblk m c 10 t (ix3 0 k l) = m ((c : Thread nD τ).loc main_arg9) (ix3 (seqOf t) k l) := by
  unfold iblk
  blk_simp
  rw [V_main_arg9]
  blk_ext [idx t, seqOf]
theorem blk_mv (c : Dev nD) (t : Fin grid0.N) (k l : Fin 256) :
    iblk m c 11 t (ix3 0 k l) = m ((c : Thread nD τ).loc main_arg10) (ix3 (seqOf t) k l) := by
  unfold iblk
  blk_simp
  rw [V_main_arg10]
  blk_ext [idx t, seqOf]

end Cert.KernelIdeal.ProjValue

end
-- ==== Proof.ProjRows.lean ====
/- The projection call (`kernel`): the gate, the queries, the keys and the values of the
   dilated attention. -/
module

public import proofs.«01_k».proof.Defs
public import proofs.«01_k».proof.Proof.Gen.KernelIdeal.Value
public import proofs.«01_k».proof.Proof.ProjBlocks
public import Idealize.ShloMosaic.Lib.Pipeline.ValueKit
public import Idealize.ShloMosaic.Lib.Pipeline.ReadBack
public import Idealize.ShloMosaic.Lib.Pointwise
public import Idealize.ShloMosaic.Lib.Tactic.ValueTie

@[expose] public section

set_option maxRecDepth 16384

noncomputable section

open Idealize.ShloMosaic Idealize.ShloMosaic.TcCoe Idealize.SL.Sem
open Idealize.ShloMosaic.Pipeline (Dat)
open Cert.Proof.Shared

namespace Cert.KernelIdeal.ProjValue

open Cert.KernelIdeal Cert.KernelIdeal.Gen

variable (m : (ℓ : Loc nD τ sig) → Buf (Elt Ideal) ℓ)

/-- Column `j` of the projection of row `r` of sequence `b`. -/
def pj (x : Vec Ideal S4x4096x1024 .f32) (g : Vec Ideal S1x1024 .f32) (w : Vec Ideal S1x1024x3328 .f32)
    (b : Fin 4) (r : Fin 4096) (j : Fin 3328) : EReal :=
  ∑ k : Fin 1024, normRow (fun k => x (ix3 b r k)) (fun k => g (ix2 0 k)) k * w (ix3 0 k j)

/-- Column `i` of the section of 256, or of 512, that begins at `off`. -/
def sec (off : Nat) (h : off + 256 ≤ 3328) (i : Fin 256) : Fin 3328 := ⟨off + i.val, by omega⟩
def sec8 (off : Nat) (h : off + 512 ≤ 3328) (i : Fin 512) : Fin 3328 := ⟨off + i.val, by omega⟩

/-- `z` times its logistic. -/
def silu (z : EReal) : EReal := z * Ideal.div 1 (1 + Ideal.exp (-z))

/-- An entry of a row of eight heads of 64, over the root mean square of its head. -/
def headed (f : Fin 512 → EReal) (j : Fin 512) : EReal :=
  f j * Ideal.rsqrt (Ideal.div (∑ e : Fin 64, f ⟨j.val / 64 * 64 + e.val, by omega⟩ * f ⟨j.val / 64 * 64 + e.val, by omega⟩) (Ideal.ofBits .f32 0x42800000#32) + eps)

/-- Half of such a row, normalised by itself. -/
theorem headed_half (f : Fin 512 → EReal) (f' : Fin 256 → EReal) (off : Nat) (ho : off = 0 ∨ off = 256)
    (hf : ∀ i : Fin 256, f' i = f ⟨off + i.val, by omega⟩) (i : Fin 256) :
    f' i * headScale f' (headOf i) = headed f ⟨off + i.val, by omega⟩ := by
  have hs : ∑ e : Fin 64, f' (lane (headOf i) e) * f' (lane (headOf i) e)
      = ∑ e : Fin 64, f ⟨(off + i.val) / 64 * 64 + e.val, by omega⟩ * f ⟨(off + i.val) / 64 * 64 + e.val, by omega⟩ := by
    refine Finset.sum_congr rfl fun e _ => ?_
    have he : (⟨off + (lane (headOf i) e).val, by omega⟩ : Fin 512) = ⟨(off + i.val) / 64 * 64 + e.val, by omega⟩ :=
      Fin.ext (by simp only [lane, headOf]; omega)
    rw [hf, he]
  unfold headed headScale
  rw [hs, hf i]

/-- What the five result arrays but the first are shown to hold. -/
def sgFn (x : Vec Ideal S4x4096x1024 .f32) (g : Vec Ideal S1x1024 .f32) (w : Vec Ideal S1x1024x3328 .f32) : Vec Ideal S4x4096x512 .bf16 :=
  fun i => silu (pj x g w (i 0) (i 1) (sec8 2304 (by decide) (i 2)))
/-- Lane `l` of pair `p` as one of 512. -/
def pairLane (p : Fin 4) (l : Fin 128) : Fin 512 := ⟨p.val * 128 + l.val, by omega⟩
def qFn (x : Vec Ideal S4x4096x1024 .f32) (g : Vec Ideal S1x1024 .f32) (w : Vec Ideal S1x1024x3328 .f32)
    (qg : Vec Ideal S1x64 .f32) : Vec Ideal S4x4x4096x128 .bf16 :=
  fun i => headed (fun j => pj x g w (i 0) (i 2) (sec8 768 (by decide) j)) (pairLane (i 1) (i 3))
    * scaled (qg (ix2 0 ⟨(pairLane (i 1) (i 3)).val % 64, by omega⟩))
def kFn (x : Vec Ideal S4x4096x1024 .f32) (g : Vec Ideal S1x1024 .f32) (w : Vec Ideal S1x1024x3328 .f32)
    (kg : Vec Ideal S1x64 .f32) : Vec Ideal S4x4x4096x128 .bf16 :=
  fun i => headed (fun j => pj x g w (i 0) (i 2) (sec8 1280 (by decide) j)) (pairLane (i 1) (i 3))
    * kg (ix2 0 ⟨(pairLane (i 1) (i 3)).val % 64, by omega⟩)
def vFn (x : Vec Ideal S4x4096x1024 .f32) (g : Vec Ideal S1x1024 .f32) (w : Vec Ideal S1x1024x3328 .f32) : Vec Ideal S4x4x4096x128 .bf16 :=
  fun i => pj x g w (i 0) (i 2) (sec8 1792 (by decide) (pairLane (i 1) (i 3)))

theorem qFn_at (x : Vec Ideal S4x4096x1024 .f32) (g : Vec Ideal S1x1024 .f32) (w : Vec Ideal S1x1024x3328 .f32) (qg : Vec Ideal S1x64 .f32)
    (b : Fin 4) (r : Fin 4096) (p : Fin 4) (l : Fin 128) (j : Fin 512) (h : j.val = p.val * 128 + l.val) :
    headed (fun j => pj x g w b r (sec8 768 (by decide) j)) j * scaled (qg (ix2 0 ⟨j.val % 64, by omega⟩)) = qFn x g w qg (ix4 b p r l) := by
  obtain rfl : j = pairLane p l := Fin.ext h
  rfl
theorem kFn_at (x : Vec Ideal S4x4096x1024 .f32) (g : Vec Ideal S1x1024 .f32) (w : Vec Ideal S1x1024x3328 .f32) (kg : Vec Ideal S1x64 .f32)
    (b : Fin 4) (r : Fin 4096) (p : Fin 4) (l : Fin 128) (j : Fin 512) (h : j.val = p.val * 128 + l.val) :
    headed (fun j => pj x g w b r (sec8 1280 (by decide) j)) j * kg (ix2 0 ⟨j.val % 64, by omega⟩) = kFn x g w kg (ix4 b p r l) := by
  obtain rfl : j = pairLane p l := Fin.ext h
  rfl

theorem vFn_at (x : Vec Ideal S4x4096x1024 .f32) (g : Vec Ideal S1x1024 .f32) (w : Vec Ideal S1x1024x3328 .f32)
    (b : Fin 4) (r : Fin 4096) (p : Fin 4) (l : Fin 128) (j : Fin 3328) (h : j.val = 1792 + (p.val * 128 + l.val)) :
    pj x g w b r j = vFn x g w (ix4 b p r l) := by
  obtain rfl : j = sec8 1792 (by decide) (pairLane p l) := Fin.ext h
  rfl

/-! ## The payloads at an index -/

theorem pay2_at (x : Vec Ideal S1x512x1024 .f32) (g : Vec Ideal S1x1024 .f32) (r : Fin 512) (k : Fin 1024) :
    k0_pay2 x g (ix2 r k) = normRow (fun k => x (ix3 0 r k)) (fun k => g (ix2 0 k)) k := by
  unfold normRow
  pointwise [k0_pay2]

/-- The loads of a section of the weights, and of half a row of gains. -/
theorem ld_w (W : Vec Ideal S1024x3328 .bf16) (off : Nat) (h : off + 256 ≤ 3328) (inb : ∀ a, (![0, off] : Fin 2 → Nat) a + S1024x256.size a ≤ S1024x3328.size a)
    (k : Fin 1024) (i : Fin 256) : View.ld W (Rect.unit ![0, off] ![1024, 256] inb) (ix2 k i) = W (ix2 k (sec off h i)) :=
  View.ld_unit_apply_of W ![0, off] ![1024, 256] inb _ _ (Fin.forall_fin_two.2 ⟨(Nat.zero_add _).symm, rfl⟩)
theorem ld_g (G : Vec Ideal S1x512 .f32) (off : Nat) (h : off + 256 ≤ 512) (inb : ∀ a, (![0, off] : Fin 2 → Nat) a + S1x256.size a ≤ S1x512.size a)
    (i : Fin 256) : View.ld G (Rect.unit ![0, off] ![1, 256] inb) (ix2 0 i) = G (ix2 0 ⟨off + i.val, by omega⟩) :=
  View.ld_unit_apply_of G ![0, off] ![1, 256] inb _ _ (Fin.forall_fin_two.2 ⟨rfl, rfl⟩)

/-- Row `r` of `h` times column `j` of `w`. -/
def dot (h : FVec Ideal S512x1024 .bf16) (w : Vec Ideal S1024x256 .bf16) (r : Fin 512) (j : Fin 256) : EReal :=
  ∑ k : Fin 1024, h (ix2 r k) * w (ix2 k j)

theorem pay14_at (h : FVec Ideal S512x1024 .bf16) (w : Vec Ideal S1024x256 .bf16) (r : Fin 512) (i : Fin 256) :
    k0_pay14 h w (ix2 r i) = dot h w r i := by
  unfold dot
  pointwise [k0_pay14]

theorem pay16_at (h : FVec Ideal S512x1024 .bf16) (w : Vec Ideal S1024x256 .bf16) (bd : Vec Ideal S256x256 .bf16)
    (hbd : ∀ j i : Fin 256, bd (ix2 j i) = Ideal.ofBits .bf16 (bdWord j.val i.val)) (g : Vec Ideal S1x256 .f32) (r : Fin 512) (i : Fin 256) :
    k0_pay16 (k0_pay14 h w) (k0_pay15 h w bd) g (ix2 r i)
      = dot h w r i * headScale (fun j => dot h w r j) (headOf i) * g (ix2 0 i) := by
  rw [← headScale_at]
  simp only [← pay14_at]
  unfold k0_pay16 k0_pay15
  generalize k0_pay14 h w = z
  pointwise [hbd]

theorem pay8_eq (h : FVec Ideal S512x1024 .bf16) (w : Vec Ideal S1024x256 .bf16) (bd : Vec Ideal S256x256 .bf16) (g : Vec Ideal S1x256 .f32) :
    k0_pay8 h w bd g = k0_pay16 (k0_pay14 h w) (k0_pay15 h w bd) g := rfl
theorem pay11_eq (h : FVec Ideal S512x1024 .bf16) (w : Vec Ideal S1024x256 .bf16) (bd : Vec Ideal S256x256 .bf16) (g : Vec Ideal S1x256 .f32) :
    k0_pay11 h w bd g = k0_pay16 (k0_pay14 h w) (k0_pay15 h w bd) g := rfl
theorem pay4_eq (x : Vec Ideal S1x512x1024 .f32) (n : Vec Ideal S1x1024 .f32) (w : Vec Ideal S1024x256 .bf16) (bd : Vec Ideal S256x256 .bf16) (g : Vec Ideal S1x256 .f32) :
    k0_pay4 x n w bd g = k0_pay16 (k0_pay14 (k0_pay2 x n) w) (k0_pay15 (k0_pay2 x n) w bd) g := rfl
theorem pay38_eq (h : FVec Ideal S512x1024 .bf16) (w : Vec Ideal S1024x256 .bf16) (bd : Vec Ideal S256x256 .bf16) (g : Vec Ideal S1x256 .f32) :
    k0_pay38 h w bd g = k0_pay16 (k0_pay14 h w) (k0_pay15 h w bd) g := rfl
theorem pay29_at (h : FVec Ideal S512x1024 .bf16) (w : Vec Ideal S1024x256 .bf16) (bd : Vec Ideal S256x256 .bf16) (g : Vec Ideal S1x256 .f32) (r : Fin 512) (i : Fin 256) :
    k0_pay29 (k0_pay27 h w) (k0_pay28 h w bd) g (ix2 r i) = k0_pay16 (k0_pay14 h w) (k0_pay15 h w bd) g (ix2 r i) := rfl

/-- The pieces that are stored: a half of the 256 lanes. -/
theorem pay10_at (h : FVec Ideal S512x1024 .bf16) (w : Vec Ideal S1024x256 .bf16) (bd : Vec Ideal S256x256 .bf16) (g : Vec Ideal S1x256 .f32) (r : Fin 512) (l : Fin 128) :
    k0_pay10 h w bd g (ix4 0 0 r l) = k0_pay8 h w bd g (ix2 r ⟨128 + l.val, by omega⟩) := by
  unfold k0_pay10
  generalize k0_pay8 h w bd g = z
  pointwise
theorem pay9_at (h : FVec Ideal S512x1024 .bf16) (w : Vec Ideal S1024x256 .bf16) (bd : Vec Ideal S256x256 .bf16) (g : Vec Ideal S1x256 .f32) (r : Fin 512) (l : Fin 128) :
    k0_pay9 h w bd g (ix4 0 0 r l) = k0_pay8 h w bd g (ix2 r ⟨l.val, by omega⟩) := by
  unfold k0_pay9
  generalize k0_pay8 h w bd g = z
  pointwise
theorem pay7_at (z : FVec Ideal S512x256 .f32) (r : Fin 512) (l : Fin 128) :
    k0_pay7 z (ix4 0 0 r l) = z (ix2 r ⟨128 + l.val, by omega⟩) := by
  pointwise [k0_pay7]
theorem pay6_at (x : Vec Ideal S1x512x1024 .f32) (n : Vec Ideal S1x1024 .f32) (w : Vec Ideal S1024x256 .bf16) (bd : Vec Ideal S256x256 .bf16) (g : Vec Ideal S1x256 .f32) (r : Fin 512) (l : Fin 128) :
    k0_pay6 (k0_pay5 x n w bd g) (ix4 0 0 r l) = k0_pay4 x n w bd g (ix2 r ⟨l.val, by omega⟩) := by
  unfold k0_pay6 k0_pay5
  generalize k0_pay4 x n w bd g = z
  pointwise

theorem pay13_eq (h : FVec Ideal S512x1024 .bf16) (w : Vec Ideal S1024x256 .bf16) (bd : Vec Ideal S256x256 .bf16) (g : Vec Ideal S1x256 .f32) :
    k0_pay13 h w bd g = k0_pay10 h w bd g := rfl
theorem pay12_eq (h : FVec Ideal S512x1024 .bf16) (w : Vec Ideal S1024x256 .bf16) (bd : Vec Ideal S256x256 .bf16) (g : Vec Ideal S1x256 .f32) :
    k0_pay12 h w bd g = k0_pay9 h w bd g := rfl
theorem pay18_eq (h : FVec Ideal S512x1024 .bf16) (w : Vec Ideal S1024x256 .bf16) (bd : Vec Ideal S256x256 .bf16) (g : Vec Ideal S1x256 .f32) :
    k0_pay18 (k0_pay14 h w) (k0_pay15 h w bd) g = k0_pay10 h w bd g := rfl
theorem pay17_eq (h : FVec Ideal S512x1024 .bf16) (w : Vec Ideal S1024x256 .bf16) (bd : Vec Ideal S256x256 .bf16) (g : Vec Ideal S1x256 .f32) :
    k0_pay17 (k0_pay14 h w) (k0_pay15 h w bd) g = k0_pay9 h w bd g := rfl
theorem pay25_at (h : FVec Ideal S512x1024 .bf16) (w : Vec Ideal S1024x256 .bf16) (r : Fin 512) (l : Fin 128) :
    k0_pay25 (k0_pay22 h w) (ix4 0 0 r l) = dot h w r ⟨128 + l.val, by omega⟩ := by
  unfold dot
  pointwise [k0_pay25, k0_pay22]
theorem pay24_at (h : FVec Ideal S512x1024 .bf16) (w : Vec Ideal S1024x256 .bf16) (r : Fin 512) (l : Fin 128) :
    k0_pay24 (k0_pay23 h w) (ix4 0 0 r l) = dot h w r ⟨l.val, by omega⟩ := by
  unfold dot
  pointwise [k0_pay24, k0_pay23, k0_pay22]
theorem pay21_eq (h : FVec Ideal S512x1024 .bf16) (w : Vec Ideal S1024x256 .bf16) : k0_pay21 h w = k0_pay25 (k0_pay22 h w) := rfl
theorem pay20_eq (h : FVec Ideal S512x1024 .bf16) (w : Vec Ideal S1024x256 .bf16) : k0_pay20 h w = k0_pay24 (k0_pay23 h w) := rfl

theorem pay26_at (h : FVec Ideal S512x1024 .bf16) (w : Vec Ideal S1024x512 .bf16) (r : Fin 512) (i : Fin 512) :
    k0_pay26 h w (ix3 0 r i) = silu (∑ k : Fin 1024, h (ix2 r k) * w (ix2 k i)) := by
  unfold silu
  pointwise [k0_pay26]
  rw [zero_sub]

/-- A section of 256 of the grid point's projected row is one of the whole's. -/
theorem dot_at (c : Dev nD) (t : Fin grid0.N) (off : Nat) (h : off + 256 ≤ 3328) (w : Vec Ideal S1024x256 .bf16)
    (hw : ∀ (k : Fin 1024) (i : Fin 256), w (ix2 k i) = iblk m c 2 t (ix2 k (sec off h i))) (r : Fin 512) (i : Fin 256) :
    dot (k0_pay2 (iblk m c 0 t) (iblk m c 1 t)) w r i
      = pj (m ((c : Thread nD τ).loc main_arg0)) (m ((c : Thread nD τ).loc main_arg1)) (m ((c : Thread nD τ).loc main_arg2)) (seqOf t) (rowOf t r) (sec off h i) := by
  unfold dot pj
  refine Finset.sum_congr rfl fun k _ => ?_
  rw [pay2_at, hw, blk_w m c t]
  simp only [blk_x m c t, blk_g m c t]

theorem final13 (c : Dev nD) : (dats m 0 c).arrAt 13 cfg0.N
    = sgFn (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  unfold outsAt0
  frame_out
  idx_vars y
  have he : (((View.whole main_v30_1).slice (win0_13.rect t)).emb (ix3 y0 y1 y2) : S4x4096x512.Idx) = ix3 (seqOf t) (rowOf t y1) y2 := by
    blk_ext [idx t, seqOf, rowOf]
  rw [he]
  obtain rfl : y0 = 0 := Subsingleton.elim _ _
  refine (pay26_at _ _ y1 y2).trans (congrArg silu ?_)
  refine Finset.sum_congr rfl fun k _ => ?_
  rw [pay2_at]
  simp only [blk_x m c t, blk_g m c t]
  congr 1
  exact (View.ld_unit_apply_of (iblk m c 2 t) ![0, 2304] ![1024, 512] inb_S1024x3328_S1024x512_0_2304 _ (ix2 k (sec8 2304 (by decide) y2))
    (Fin.forall_fin_two.2 ⟨(Nat.zero_add _).symm, rfl⟩)).trans (blk_w m c t k _)

/-- What a piece of the queries, the keys or the values is shown to hold. -/
theorem piece_at (c : Dev nD) (t : Fin grid0.N) (off half : Nat) (ho : half = 0 ∨ half = 256) (h : off + 512 ≤ 3328)
    (w : Vec Ideal S1024x256 .bf16)
    (hw : ∀ (k : Fin 1024) (i : Fin 256), w (ix2 k i) = iblk m c 2 t (ix2 k (sec (off + half) (by omega) i)))
    (g : Vec Ideal S1x256 .f32) (r : Fin 512) (i : Fin 256) :
    k0_pay16 (k0_pay14 (k0_pay2 (iblk m c 0 t) (iblk m c 1 t)) w) (k0_pay15 (k0_pay2 (iblk m c 0 t) (iblk m c 1 t)) w (iblk m c 9 t)) g (ix2 r i)
      = headed (fun j => pj (m ((c : Thread nD τ).loc main_arg0)) (m ((c : Thread nD τ).loc main_arg1)) (m ((c : Thread nD τ).loc main_arg2)) (seqOf t) (rowOf t r) (sec8 off h j))
          ⟨half + i.val, by omega⟩ * g (ix2 0 i) := by
  refine (pay16_at _ _ _ (blk_bd m c t) _ _ _).trans (congrArg (· * g (ix2 0 i)) ?_)
  refine headed_half _ _ half ho (fun i => ?_) i
  rw [dot_at m c t _ (by omega) w hw]
  congr 1
  exact Fin.ext (by simp only [sec, sec8]; omega)

theorem final14 (c : Dev nD) : (dats m 0 c).arrAt 14 cfg0.N
    = qFn (m ((c : Thread nD τ).loc main_arg0)) (m ((c : Thread nD τ).loc main_arg1)) (m ((c : Thread nD τ).loc main_arg2)) (m ((c : Thread nD τ).loc main_arg6)) := by
  refine (dats m 0 c).arrAt_eq_of_covers 14 _ (by decide +kernel) fun t hf y => ?_
  blk_simp
  rw [after0_14]
  unfold outsAt0
  frame_out
  idx_vars y
  have he : (((View.whole main_v30_2).slice (win0_14.rect t)).emb (ix4 y0 y1 y2 y3) : S4x4x4096x128.Idx) = ix4 (seqOf t) y1 (rowOf t y2) y3 := by
    blk_ext [idx t, seqOf, rowOf]
  rw [he]
  obtain rfl : y0 = 0 := Subsingleton.elim _ _
  canon_tiles x h <;> idx_vars x <;> obtain rfl : x0 = 0 := Subsingleton.elim _ _ <;> obtain rfl : x1 = 0 := Subsingleton.elim _ _
    <;> obtain rfl : y2 = x2 := Fin.ext h2 <;> obtain rfl : y3 = x3 := Fin.ext h3
  · obtain rfl : y1 = 3 := Fin.ext h1
    refine (pay10_at _ _ _ _ _ _).trans ((piece_at m c t 768 256 (.inr rfl) (by decide) _ (fun k i => ld_w _ _ _ _ k i) _ _ _).trans ?_)
    rw [ld_g _ _ (by decide), blk_qg m c t]
    exact qFn_at _ _ _ _ _ _ _ _ _ (by simp only [Fin.isValue]; omega)
  · obtain rfl : y1 = 2 := Fin.ext h1
    refine (pay9_at _ _ _ _ _ _).trans ((piece_at m c t 768 256 (.inr rfl) (by decide) _ (fun k i => ld_w _ _ _ _ k i) _ _ _).trans ?_)
    rw [ld_g _ _ (by decide), blk_qg m c t]
    exact qFn_at _ _ _ _ _ _ _ _ _ (by simp only [Fin.isValue]; omega)
  · obtain rfl : y1 = 1 := Fin.ext h1
    refine (pay7_at _ _ _).trans ((piece_at m c t 768 0 (.inl rfl) (by decide) _ (fun k i => ld_w _ _ _ _ k i) _ _ _).trans ?_)
    rw [ld_g _ _ (by decide), blk_qg m c t]
    exact qFn_at _ _ _ _ _ _ _ _ _ (by simp only [Fin.isValue]; omega)
  · obtain rfl : y1 = 0 := Fin.ext h1
    refine (pay6_at _ _ _ _ _ _ _).trans ((piece_at m c t 768 0 (.inl rfl) (by decide) _ (fun k i => ld_w _ _ _ _ k i) _ _ _).trans ?_)
    rw [ld_g _ _ (by decide), blk_qg m c t]
    exact qFn_at _ _ _ _ _ _ _ _ _ (by simp only [Fin.isValue]; omega)

theorem final15 (c : Dev nD) : (dats m 0 c).arrAt 15 cfg0.N
    = kFn (m ((c : Thread nD τ).loc main_arg0)) (m ((c : Thread nD τ).loc main_arg1)) (m ((c : Thread nD τ).loc main_arg2)) (m ((c : Thread nD τ).loc main_arg7)) := by
  refine (dats m 0 c).arrAt_eq_of_covers 15 _ (by decide +kernel) fun t hf y => ?_
  blk_simp
  rw [after0_15]
  unfold outsAt0
  frame_out
  idx_vars y
  have he : (((View.whole main_v30_3).slice (win0_15.rect t)).emb (ix4 y0 y1 y2 y3) : S4x4x4096x128.Idx) = ix4 (seqOf t) y1 (rowOf t y2) y3 := by
    blk_ext [idx t, seqOf, rowOf]
  rw [he]
  obtain rfl : y0 = 0 := Subsingleton.elim _ _
  canon_tiles x h <;> idx_vars x <;> obtain rfl : x0 = 0 := Subsingleton.elim _ _ <;> obtain rfl : x1 = 0 := Subsingleton.elim _ _
    <;> obtain rfl : y2 = x2 := Fin.ext h2 <;> obtain rfl : y3 = x3 := Fin.ext h3
  · obtain rfl : y1 = 3 := Fin.ext h1
    rw [pay18_eq]
    refine (pay10_at _ _ _ _ _ _).trans ((piece_at m c t 1280 256 (.inr rfl) (by decide) _ (fun k i => ld_w _ _ _ _ k i) _ _ _).trans ?_)
    rw [ld_g _ _ (by decide), blk_kg m c t]
    exact kFn_at _ _ _ _ _ _ _ _ _ (by simp only [Fin.isValue]; omega)
  · obtain rfl : y1 = 2 := Fin.ext h1
    rw [pay17_eq]
    refine (pay9_at _ _ _ _ _ _).trans ((piece_at m c t 1280 256 (.inr rfl) (by decide) _ (fun k i => ld_w _ _ _ _ k i) _ _ _).trans ?_)
    rw [ld_g _ _ (by decide), blk_kg m c t]
    exact kFn_at _ _ _ _ _ _ _ _ _ (by simp only [Fin.isValue]; omega)
  · obtain rfl : y1 = 1 := Fin.ext h1
    rw [pay13_eq]
    refine (pay10_at _ _ _ _ _ _).trans ((piece_at m c t 1280 0 (.inl rfl) (by decide) _ (fun k i => ld_w _ _ _ _ k i) _ _ _).trans ?_)
    rw [ld_g _ _ (by decide), blk_kg m c t]
    exact kFn_at _ _ _ _ _ _ _ _ _ (by simp only [Fin.isValue]; omega)
  · obtain rfl : y1 = 0 := Fin.ext h1
    rw [pay12_eq]
    refine (pay9_at _ _ _ _ _ _).trans ((piece_at m c t 1280 0 (.inl rfl) (by decide) _ (fun k i => ld_w _ _ _ _ k i) _ _ _).trans ?_)
    rw [ld_g _ _ (by decide), blk_kg m c t]
    exact kFn_at _ _ _ _ _ _ _ _ _ (by simp only [Fin.isValue]; omega)

theorem final16 (c : Dev nD) : (dats m 0 c).arrAt 16 cfg0.N
    = vFn (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16]
  unfold outsAt0
  frame_out
  idx_vars y
  have he : (((View.whole main_v30_4).slice (win0_16.rect t)).emb (ix4 y0 y1 y2 y3) : S4x4x4096x128.Idx) = ix4 (seqOf t) y1 (rowOf t y2) y3 := by
    blk_ext [idx t, seqOf, rowOf]
  rw [he]
  obtain rfl : y0 = 0 := Subsingleton.elim _ _
  canon_tiles x h <;> idx_vars x <;> obtain rfl : x0 = 0 := Subsingleton.elim _ _ <;> obtain rfl : x1 = 0 := Subsingleton.elim _ _
    <;> obtain rfl : y2 = x2 := Fin.ext h2 <;> obtain rfl : y3 = x3 := Fin.ext h3
  · obtain rfl : y1 = 3 := Fin.ext h1
    refine (pay25_at _ _ _ _).trans ((dot_at m c t 2048 (by decide) _ (fun k i => ld_w _ _ _ _ k i) _ _).trans (vFn_at _ _ _ _ _ _ _ _ (by simp only [sec, Fin.isValue]; omega)))
  · obtain rfl : y1 = 2 := Fin.ext h1
    refine (pay24_at _ _ _ _).trans ((dot_at m c t 2048 (by decide) _ (fun k i => ld_w _ _ _ _ k i) _ _).trans (vFn_at _ _ _ _ _ _ _ _ (by simp only [sec, Fin.isValue]; omega)))
  · obtain rfl : y1 = 1 := Fin.ext h1
    rw [pay21_eq]
    refine (pay25_at _ _ _ _).trans ((dot_at m c t 1792 (by decide) _ (fun k i => ld_w _ _ _ _ k i) _ _).trans (vFn_at _ _ _ _ _ _ _ _ (by simp only [sec, Fin.isValue]; omega)))
  · obtain rfl : y1 = 0 := Fin.ext h1
    rw [pay20_eq]
    refine (pay24_at _ _ _ _).trans ((dot_at m c t 1792 (by decide) _ (fun k i => ld_w _ _ _ _ k i) _ _).trans (vFn_at _ _ _ _ _ _ _ _ (by simp only [sec, Fin.isValue]; omega)))

end Cert.KernelIdeal.ProjValue

end
-- ==== Proof.ProjMix.lean ====
/- The projection call (`kernel`): the gating of the first head group. -/
module

public import proofs.«01_k».proof.Defs
public import proofs.«01_k».proof.Proof.Gen.KernelIdeal.Value
public import proofs.«01_k».proof.Proof.ProjRows
public import Idealize.ShloMosaic.Lib.Pipeline.ValueKit
public import Idealize.ShloMosaic.Lib.Pipeline.ReadBack
public import Idealize.ShloMosaic.Lib.Pointwise
public import Idealize.ShloMosaic.Lib.Tactic.ValueTie

@[expose] public section

set_option maxRecDepth 16384

noncomputable section

open Idealize.ShloMosaic Idealize.ShloMosaic.TcCoe Idealize.SL.Sem
open Idealize.ShloMosaic.Pipeline (Dat)
open Cert.Proof.Shared

namespace Cert.KernelIdeal.ProjValue

open Cert.KernelIdeal Cert.KernelIdeal.Gen

variable (m : (ℓ : Loc nD τ sig) → Buf (Elt Ideal) ℓ)

open Idealize.ShloMosaic in
theorem select_slt {α : Type} (a b : Nat) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  unfold Scalar.select
  by_cases h : a < b <;> simp [h]
theorem select_sle {α : Type} (a b : Nat) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  unfold Scalar.select
  by_cases h : a ≤ b <;> simp [h]

/-! ## The pieces of the causal mixing -/

/-- Two heads' weights, one above the other, times a chunk of 128 rows and 128 lanes. -/
def prod (w2 : FVec Ideal S256x128 .bf16) (v : FVec Ideal S128x128 .bf16) : FVec Ideal S256x128 .f32 :=
  matmul dot_S256x128_S128x128_S256x128_1_0_0_1_n_n none w2 v (constant S256x128 .f32 0x00000000#32)
/-- The first head's rows for the first 64 lanes, the second's for the others. -/
def pick (z : FVec Ideal S256x128 .f32) : FVec Ideal S128x128 .f32 :=
  select (broadcastTo S128x128 (shapeCast S1x128 k0_pay3 shapeCasts_S1x128_S1x128) broadcasts_S1x128_S128x128)
    (extractStridedSlice S128x128 ![0, 0] z slices_S256x128_o0_0_S128x128)
    (extractStridedSlice S128x128 ![128, 0] z slices_S256x128_o128_0_S128x128)
def above (x y : FVec Ideal S128x128 .bf16) : FVec Ideal S256x128 .bf16 :=
  concatenate S256x128 0 [⟨S128x128, x⟩, ⟨S128x128, y⟩] concatenates_S128x128_S128x128_S256x128_d0
def four (x0 x1 x2 x3 : FVec Ideal S128x128 .f32) : FVec Ideal S512x128 .f32 :=
  concatenate S512x128 0 [⟨S128x128, x0⟩, ⟨S128x128, x1⟩, ⟨S128x128, x2⟩, ⟨S128x128, x3⟩] concatenates_S128x128_S128x128_S128x128_S128x128_S512x128_d0
def beside (x y : FVec Ideal S512x128 .f32) : FVec Ideal S512x256 .f32 :=
  concatenate S512x256 1 [⟨S512x128, x⟩, ⟨S512x128, y⟩] concatenates_S512x128_S512x128_S512x256_d1

theorem prod_at (w2 : FVec Ideal S256x128 .bf16) (v : FVec Ideal S128x128 .bf16) (a : Fin 256) (l : Fin 128) :
    prod w2 v (ix2 a l) = ∑ s : Fin 128, w2 (ix2 a s) * v (ix2 s l) := by
  pointwise [prod]
theorem pick_at (z : FVec Ideal S256x128 .f32) (a l : Fin 128) :
    pick z (ix2 a l) = z (ix2 ⟨l.val / 64 * 128 + a.val, by omega⟩ l) := by
  pointwise [pick, k0_pay3]
  refine (select_slt l.val 64 (by omega) (by omega) _ _).trans ?_
  split <;> (refine congrArg (fun i => z (ix2 i l)) (Fin.ext ?_); simp only []; omega)
theorem above_of {x y : FVec Ideal S128x128 .bf16} {f : Fin 256 → Fin 128 → EReal}
    (h0 : ∀ a l : Fin 128, x (ix2 a l) = f ⟨a.val, by omega⟩ l) (h1 : ∀ a l : Fin 128, y (ix2 a l) = f ⟨128 + a.val, by omega⟩ l)
    (a : Fin 256) (s : Fin 128) : above x y (ix2 a s) = f a s := by
  pointwise [above]
  split
  · exact h0 _ _
  · refine (h1 _ _).trans (congrArg (f · s) (Fin.ext ?_)); simp only []; omega
theorem four_of {x0 x1 x2 x3 : FVec Ideal S128x128 .f32} {f : Fin 512 → Fin 128 → EReal}
    (h0 : ∀ a l : Fin 128, x0 (ix2 a l) = f ⟨a.val, by omega⟩ l) (h1 : ∀ a l : Fin 128, x1 (ix2 a l) = f ⟨128 + a.val, by omega⟩ l)
    (h2 : ∀ a l : Fin 128, x2 (ix2 a l) = f ⟨256 + a.val, by omega⟩ l) (h3 : ∀ a l : Fin 128, x3 (ix2 a l) = f ⟨384 + a.val, by omega⟩ l)
    (r : Fin 512) (l : Fin 128) : four x0 x1 x2 x3 (ix2 r l) = f r l := by
  pointwise [four]
  split
  · exact h0 _ _
  split
  · refine (h1 _ _).trans (congrArg (f · l) (Fin.ext ?_)); simp only []; omega
  split
  · refine (h2 _ _).trans (congrArg (f · l) (Fin.ext ?_)); simp only []; omega
  · refine (h3 _ _).trans (congrArg (f · l) (Fin.ext ?_)); simp only []; omega
theorem beside_of {x y : FVec Ideal S512x128 .f32} {f : Fin 512 → Fin 256 → EReal}
    (h0 : ∀ (r : Fin 512) (l : Fin 128), x (ix2 r l) = f r ⟨l.val, by omega⟩)
    (h1 : ∀ (r : Fin 512) (l : Fin 128), y (ix2 r l) = f r ⟨128 + l.val, by omega⟩)
    (r : Fin 512) (c : Fin 256) : beside x y (ix2 r c) = f r c := by
  pointwise [beside]
  split
  · exact h0 _ _
  · refine (h1 _ _).trans (congrArg (f r) (Fin.ext ?_)); simp only []; omega

theorem pay36_eq (vn : FVec Ideal S512x256 .bf16) (a2 a3 : FVec Ideal S128x128 .bf16) (w01 : FVec Ideal S256x128 .bf16)
    (c0 : FVec Ideal S128x128 .f32) (c1 : FVec Ideal S256x128 .f32) :
    k0_pay36 k0_pay3 vn a2 a3 w01 c0 c1 = beside
      (four c0 (pick c1) (pick (prod w01 (extractStridedSlice S128x128 ![256, 0] vn slices_S512x256_o256_0_S128x128)))
        (pick (prod w01 (extractStridedSlice S128x128 ![384, 0] vn slices_S512x256_o384_0_S128x128))))
      (four (pick (prod (above a2 a3) (extractStridedSlice S128x128 ![0, 128] vn slices_S512x256_o0_128_S128x128)))
        (pick (prod (above a2 a3) (extractStridedSlice S128x128 ![128, 128] vn slices_S512x256_o128_128_S128x128)))
        (pick (prod (above a2 a3) (extractStridedSlice S128x128 ![256, 128] vn slices_S512x256_o256_128_S128x128)))
        (pick (prod (above a2 a3) (extractStridedSlice S128x128 ![384, 128] vn slices_S512x256_o384_128_S128x128)))) := rfl
theorem pay34_eq (z e : FVec Ideal S512x256 .f32) (g : Vec Ideal S1x256 .f32) (w0 w1 : Vec Ideal S1x128x128 .f32) :
    k0_pay34 k0_pay3 z e g w0 w1 = pick (prod (k0_pay33 w0 w1) (extractStridedSlice S128x128 ![0, 0] (k0_pay29 z e g) slices_S512x256_o0_0_S128x128)) := rfl
theorem pay35_eq (z e : FVec Ideal S512x256 .f32) (g : Vec Ideal S1x256 .f32) (w0 w1 : Vec Ideal S1x128x128 .f32) :
    k0_pay35 z e g w0 w1 = prod (k0_pay33 w0 w1) (extractStridedSlice S128x128 ![128, 0] (k0_pay29 z e g) slices_S512x256_o128_0_S128x128) := rfl
theorem pay33_eq (w0 w1 : Vec Ideal S1x128x128 .f32) : k0_pay33 w0 w1 = above (k0_pay31 w0) (k0_pay31 w1) := rfl
theorem pay32_eq (w : Vec Ideal S1x128x128 .f32) : k0_pay32 w = k0_pay31 w := rfl
theorem pay31_at (w : Vec Ideal S1x128x128 .f32) (a s : Fin 128) :
    k0_pay31 w (ix2 a s) = if s.val ≤ a.val then w (ix3 0 a s) else 0 := by
  pointwise [k0_pay31, k0_pay30]
  exact select_sle s.val a.val (by omega) (by omega) _ _

/-- Two heads' masked weights, as rows 0–127 and 128–255. -/
def tril2 (w0 w1 : Fin 128 → Fin 128 → EReal) (a : Fin 256) (s : Fin 128) : EReal :=
  if s.val ≤ a.val % 128 then (if a.val / 128 = 0 then w0 else w1) ⟨a.val % 128, by omega⟩ s else 0
theorem above_tril (w0 w1 : Vec Ideal S1x128x128 .f32) (a : Fin 256) (s : Fin 128) :
    above (k0_pay31 w0) (k0_pay31 w1) (ix2 a s) = tril2 (fun a s => w0 (ix3 0 a s)) (fun a s => w1 (ix3 0 a s)) a s := by
  refine above_of (fun a l => ?_) (fun a l => ?_) a s <;> rw [pay31_at] <;> unfold tril2
  · have e : a.val % 128 = a.val := by omega
    have e' : a.val / 128 = 0 := by omega
    simp only [e, e', if_true]
  · have e : (128 + a.val) % 128 = a.val := by omega
    have e' : ¬ (128 + a.val) / 128 = 0 := by omega
    simp only [e, e', if_false]

/-- The mixed entry: row r, lane c of the four heads, from the masked weights of the head of c. -/
def mixed (w : Fin 4 → Fin 128 → Fin 128 → EReal) (v : Fin 512 → Fin 256 → EReal) (r : Fin 512) (c : Fin 256) : EReal :=
  ∑ s : Fin 128, (if s.val ≤ r.val % 128 then w ⟨c.val / 64, by omega⟩ ⟨r.val % 128, by omega⟩ s else 0)
    * v ⟨r.val / 128 * 128 + s.val, by omega⟩ c

theorem slice_at (vn : FVec Ideal S512x256 .bf16) (p q : Nat) (sl : S512x256.Slices ![p, q] S128x128) (a l : Fin 128)
    (hp : p + a.val < 512) (hq : q + l.val < 256) :
    extractStridedSlice S128x128 ![p, q] vn sl (ix2 a l) = vn (ix2 ⟨p + a.val, hp⟩ ⟨q + l.val, hq⟩) :=
  congrArg vn (funext (Fin.forall_fin_two.2 ⟨rfl, rfl⟩))

theorem pick_prod (w : Fin 4 → Fin 128 → Fin 128 → EReal) (h : Nat) (hh : h < 2) (w2 : FVec Ideal S256x128 .bf16)
    (hw : ∀ a s, w2 (ix2 a s) = tril2 (w ⟨h * 2, by omega⟩) (w ⟨h * 2 + 1, by omega⟩) a s) (vn : FVec Ideal S512x256 .bf16) (n : Nat) (hn : n < 4)
    (p q : Nat) (hp : p = n * 128) (hq : q = h * 128)
    (sl : S512x256.Slices ![p, q] S128x128) (a l : Fin 128) (r : Fin 512) (c : Fin 256) (hr : r.val = p + a.val) (hc : c.val = q + l.val) :
    pick (prod w2 (extractStridedSlice S128x128 ![p, q] vn sl)) (ix2 a l) = mixed w (fun r c => vn (ix2 r c)) r c := by
  rw [pick_at, prod_at]
  unfold mixed
  refine Finset.sum_congr rfl fun s _ => ?_
  rw [hw, slice_at vn p q sl s l (by omega) (by omega)]
  have e1 : (l.val / 64 * 128 + a.val) % 128 = a.val := by omega
  have e2 : r.val % 128 = a.val := by omega
  have er : (⟨p + s.val, by omega⟩ : Fin 512) = ⟨r.val / 128 * 128 + s.val, by omega⟩ := Fin.ext (by simp only []; omega)
  have ec : (⟨q + l.val, by omega⟩ : Fin 256) = c := Fin.ext hc.symm
  rw [er, ec]
  refine congrArg (· * _) ?_
  unfold tril2
  simp only [e1, e2]
  refine if_congr Iff.rfl ?_ rfl
  have hl := l.isLt
  split <;> (refine congrArg (w · _ s) (Fin.ext ?_); simp only []; omega)

theorem pay36_at (z e : FVec Ideal S512x256 .f32) (g : Vec Ideal S1x256 .f32) (w0 w1 w2 w3 : Vec Ideal S1x128x128 .f32)
    (r : Fin 512) (c : Fin 256) :
    k0_pay36 k0_pay3 (k0_pay29 z e g) (k0_pay31 w2) (k0_pay32 w3) (k0_pay33 w0 w1) (k0_pay34 k0_pay3 z e g w0 w1) (k0_pay35 z e g w0 w1) (ix2 r c)
      = mixed (fun h a s => (![w0, w1, w2, w3] h) (ix3 0 a s)) (fun r c => k0_pay29 z e g (ix2 r c)) r c := by
  rw [pay36_eq, pay34_eq, pay35_eq, pay33_eq, pay32_eq]
  generalize k0_pay29 z e g = vn
  have p0 := pick_prod (fun h a s => (![w0, w1, w2, w3] h) (ix3 0 a s)) 0 (by omega) _ (above_tril w0 w1) vn
  have p1 := pick_prod (fun h a s => (![w0, w1, w2, w3] h) (ix3 0 a s)) 1 (by omega) _ (above_tril w2 w3) vn
  refine beside_of (fun r l => ?_) (fun r l => ?_) r c
  · refine four_of (f := fun r (l : Fin 128) => mixed _ _ r ⟨l.val, by omega⟩) (fun a l => ?_) (fun a l => ?_) (fun a l => ?_) (fun a l => ?_) r l
    · exact p0 0 (by omega) _ _ rfl rfl _ _ _ _ _ (Nat.zero_add _).symm (Nat.zero_add _).symm
    · exact p0 1 (by omega) _ _ rfl rfl _ _ _ _ _ rfl (Nat.zero_add _).symm
    · exact p0 2 (by omega) _ _ rfl rfl _ _ _ _ _ rfl (Nat.zero_add _).symm
    · exact p0 3 (by omega) _ _ rfl rfl _ _ _ _ _ rfl (Nat.zero_add _).symm
  · refine four_of (f := fun r (l : Fin 128) => mixed _ _ r ⟨128 + l.val, by omega⟩) (fun a l => ?_) (fun a l => ?_) (fun a l => ?_) (fun a l => ?_) r l
    · exact p1 0 (by omega) _ _ rfl rfl _ _ _ _ _ (Nat.zero_add _).symm rfl
    · exact p1 1 (by omega) _ _ rfl rfl _ _ _ _ _ rfl rfl
    · exact p1 2 (by omega) _ _ rfl rfl _ _ _ _ _ rfl rfl
    · exact p1 3 (by omega) _ _ rfl rfl _ _ _ _ _ rfl rfl

theorem pay37_at (h : FVec Ideal S512x1024 .bf16) (sp : FVec Ideal S512x256 .f32) (b : Vec Ideal S128x256 .f32) (wu wg : Vec Ideal S1024x256 .bf16)
    (r : Fin 512) (i : Fin 256) :
    k0_pay37 h sp b wu wg (ix3 0 r i) = dot h wu r i * (sp (ix2 r i) + b (ix2 ⟨r.val % 128, by omega⟩ i)) * silu (dot h wg r i) := by
  have hb : concatenate S512x256 0 [⟨S128x256, b⟩, ⟨S128x256, b⟩, ⟨S128x256, b⟩, ⟨S128x256, b⟩] concatenates_S128x256_S128x256_S128x256_S128x256_S512x256_d0 (ix2 r i)
      = b (ix2 ⟨r.val % 128, by omega⟩ i) := by
    pointwise
    repeat' split
    all_goals (refine congrArg (fun x => b (ix2 x i)) (Fin.ext ?_); simp only []; omega)
  generalize hcc : concatenate S512x256 0 [⟨S128x256, b⟩, ⟨S128x256, b⟩, ⟨S128x256, b⟩, ⟨S128x256, b⟩] concatenates_S128x256_S128x256_S128x256_S128x256_S512x256_d0 = cc at hb
  rw [← hb]
  unfold silu dot
  pointwise [k0_pay37, hcc]
  rw [zero_sub]

end Cert.KernelIdeal.ProjValue

end
-- ==== Proof.ProjMem.lean ====
/- The projection call (`kernel`): the attention to the memory. -/
module

public import proofs.«01_k».proof.Defs
public import proofs.«01_k».proof.Proof.Gen.KernelIdeal.Value
public import proofs.«01_k».proof.Proof.ProjMix
public import Idealize.ShloMosaic.Lib.Pipeline.ValueKit
public import Idealize.ShloMosaic.Lib.Pipeline.ReadBack
public import Idealize.ShloMosaic.Lib.Pointwise
public import Idealize.ShloMosaic.Lib.Tactic.ValueTie

@[expose] public section

set_option maxRecDepth 16384

noncomputable section

open Idealize.ShloMosaic Idealize.ShloMosaic.TcCoe Idealize.SL.Sem
open Idealize.ShloMosaic.Pipeline (Dat)
open Cert.Proof.Shared

namespace Cert.KernelIdeal.ProjValue

open Cert.KernelIdeal Cert.KernelIdeal.Gen

variable (m : (ℓ : Loc nD τ sig) → Buf (Elt Ideal) ℓ)

/-- A pair's queries twice: the first 512 rows keep the lanes of the first head, the others those of the second. -/
def twice (q : FVec Ideal S512x128 .bf16) : FVec Ideal S1024x128 .bf16 :=
  have lo : IVec S1x128 1 := cmpi .slt (iota .tc S1x128 32 [1] iota_S1x128_d1_w32) (broadcast S1x128 64#32)
  have lo' : IVec S512x128 1 := broadcastTo S512x128 (shapeCast S1x128 lo shapeCasts_S1x128_S1x128) broadcasts_S1x128_S512x128
  have none : FVec Ideal S512x128 .bf16 := broadcast S512x128 (Scalar.ofBits .bf16 0x0000#16)
  concatenate S1024x128 0 [⟨S512x128, select lo' q none⟩, ⟨S512x128, select lo' none q⟩] concatenates_S512x128_S512x128_S1024x128_d0
def scores (q : FVec Ideal S1024x128 .bf16) (k : Vec Ideal S1x256x128 .bf16) : FVec Ideal S1024x256 .f32 :=
  matmul dot_S1024x128_S256x128_S1024x256_1_1_0_0_n_n none q (shapeCast S256x128 k shapeCasts_S1x256x128_S256x128 : FVec Ideal S256x128 .bf16) (constant S1024x256 .f32 0x00000000#32)
def expo (s : FVec Ideal S1024x256 .f32) : FVec Ideal S1024x256 .f32 :=
  exp (subf s (broadcastTo S1024x256 (shapeCast S1024x1 (multiReduction .maximumf [1] S1024 s 0xFF800000#32 reduces_S1024x256_S1024 (.inl rfl) rfl) shapeCasts_S1024_S1024x1) broadcasts_S1024x1_S1024x256))
def attend (e : FVec Ideal S1024x256 .f32) (v : Vec Ideal S1x256x128 .bf16) : FVec Ideal S1024x128 .f32 :=
  mulf (matmul dot_S1024x256_S256x128_S1024x128_1_0_0_1_n_n none (truncf .bf16 e bitsLt_bf16_f32 : FVec Ideal S1024x256 .bf16) (shapeCast S256x128 v shapeCasts_S1x256x128_S256x128 : FVec Ideal S256x128 .bf16) (constant S1024x128 .f32 0x00000000#32))
    (broadcastTo S1024x128 (divf (broadcast S1024x1 (Scalar.ofBits .f32 0x3F800000#32)) (shapeCast S1024x1 (multiReduction .add [1] S1024 e 0x00000000#32 reduces_S1024x256_S1024 (.inl rfl) rfl) shapeCasts_S1024_S1024x1)) broadcasts_S1024x1_S1024x128)
def halves (o : FVec Ideal S1024x128 .f32) (gate : FVec Ideal S512x128 .f32) : FVec Ideal S1x512x128 .bf16 :=
  shapeCast S1x512x128 (truncf .bf16 (mulf (select (broadcastTo S512x128 (shapeCast S1x128 k0_pay3 shapeCasts_S1x128_S1x128) broadcasts_S1x128_S512x128)
    (extractStridedSlice S512x128 ![0, 0] o slices_S1024x128_o0_0_S512x128) (extractStridedSlice S512x128 ![512, 0] o slices_S1024x128_o512_0_S512x128)) gate) bitsLt_bf16_f32 : FVec Ideal S512x128 .bf16) shapeCasts_S512x128_S1x512x128

theorem pay44_eq (q : FVec Ideal S512x256 .f32) (k v : Vec Ideal S1x256x128 .bf16) (gate : FVec Ideal S512x256 .f32) :
    k0_pay44 k0_pay3 gate (k0_pay42 q k v) (k0_pay43 q k)
      = halves (attend (expo (scores (twice (extractStridedSlice S512x128 ![0, 0] (k0_pay39 q) slices_S512x256_o0_0_S512x128)) k)) v)
          (extractStridedSlice S512x128 ![0, 0] gate slices_S512x256_o0_0_S512x128) := rfl
theorem pay1_eq (q : FVec Ideal S512x256 .f32) (k v : Vec Ideal S1x256x128 .bf16) (gate : FVec Ideal S512x256 .f32) :
    k0_pay1 k0_pay3 gate (k0_pay45 (k0_pay39 q) k v) (k0_pay46 (k0_pay39 q) k v)
      = halves (attend (expo (scores (twice (extractStridedSlice S512x128 ![0, 128] (k0_pay39 q) slices_S512x256_o0_128_S512x128)) k)) v)
          (extractStridedSlice S512x128 ![0, 128] gate slices_S512x256_o0_128_S512x128) := rfl

theorem twice_at (q : FVec Ideal S512x128 .bf16) (r : Fin 1024) (l : Fin 128) :
    twice q (ix2 r l) = if r.val / 512 = l.val / 64 then q (ix2 ⟨r.val % 512, by omega⟩ l) else 0 := by
  pointwise [twice]
  have hl := l.isLt
  split
  · refine (select_slt l.val 64 (by omega) (by omega) _ _).trans ?_
    refine if_ctx_congr (by omega) (fun _ => congrArg (fun x => q (ix2 x l)) (Fin.ext ?_)) fun _ => rfl
    simp only []; omega
  · refine (select_slt l.val 64 (by omega) (by omega) _ _).trans ?_
    by_cases h : l.val < 64
    · exact (if_pos h).trans (if_neg (by omega)).symm
    · refine ((if_neg h).trans ?_).trans (if_pos (by omega)).symm
      refine congrArg (fun x => q (ix2 x l)) (Fin.ext ?_)
      simp only []; omega
theorem scores_at (q : FVec Ideal S1024x128 .bf16) (k : Vec Ideal S1x256x128 .bf16) (r : Fin 1024) (x : Fin 256) :
    scores q k (ix2 r x) = ∑ l : Fin 128, q (ix2 r l) * k (ix3 0 x l) := by
  pointwise [scores]
/-- The largest of a row of scores. -/
def peak (s : Fin 256 → EReal) : EReal := Finset.fold max (Ideal.ofBits .f32 0xFF800000#32) s Finset.univ
theorem expo_at (s : FVec Ideal S1024x256 .f32) (r : Fin 1024) (x : Fin 256) :
    expo s (ix2 r x) = Ideal.exp (s (ix2 r x) - peak fun x => s (ix2 r x)) := by
  unfold peak
  pointwise [expo]
theorem attend_at (e : FVec Ideal S1024x256 .f32) (v : Vec Ideal S1x256x128 .bf16) (r : Fin 1024) (l : Fin 128) :
    attend e v (ix2 r l) = (∑ x : Fin 256, e (ix2 r x) * v (ix3 0 x l)) * Ideal.div 1 (∑ x : Fin 256, e (ix2 r x)) := by
  pointwise [attend]
theorem halves_at (o : FVec Ideal S1024x128 .f32) (gate : FVec Ideal S512x128 .f32) (r : Fin 512) (l : Fin 128) :
    halves o gate (ix3 0 r l) = o (ix2 ⟨l.val / 64 * 512 + r.val, by omega⟩ l) * gate (ix2 r l) := by
  pointwise [halves, k0_pay3]
  refine congrArg (· * gate (ix2 r l)) ((select_slt l.val 64 (by omega) (by omega) _ _).trans ?_)
  have hl := l.isLt
  split <;> (refine congrArg (fun x => o (ix2 x l)) (Fin.ext ?_); simp only []; omega)
theorem pay40_at (h : FVec Ideal S512x1024 .bf16) (w : Vec Ideal S1024x256 .bf16) (r : Fin 512) (i : Fin 256) :
    k0_pay40 h w (ix2 r i) = silu (dot h w r i) := by
  unfold silu dot
  pointwise [k0_pay40]
  rw [zero_sub]

/-- The read of the memory from a row of scores: weights first, one division. -/
def kread (s v : Fin 256 → EReal) : EReal :=
  (∑ x : Fin 256, Ideal.exp (s x - peak s) * v x) * Ideal.div 1 (∑ x : Fin 256, Ideal.exp (s x - peak s))

theorem sum_half (f : Fin 128 → EReal) (h : Nat) (hh : h < 2) :
    ∑ l : Fin 128, (if h = l.val / 64 then f l else 0) = ∑ d : Fin 64, f ⟨h * 64 + d.val, by omega⟩ := by
  have e (g : Fin 128 → EReal) : ∑ l : Fin 128, g l = ∑ d : Fin 64, g ⟨d.val, by omega⟩ + ∑ d : Fin 64, g ⟨64 + d.val, by omega⟩ :=
    Fin.sum_univ_add (a := 64) (b := 64) g
  rw [e]
  have z (d : Fin 64) : d.val / 64 = 0 := by omega
  have o (d : Fin 64) : (64 + d.val) / 64 = 1 := by omega
  obtain rfl | rfl : h = 0 ∨ h = 1 := by omega
  · simp only [z, o]; simp
  · simp only [z, o]; simp

theorem score_at (q : FVec Ideal S512x128 .bf16) (k : Vec Ideal S1x256x128 .bf16) (h : Nat) (hh : h < 2) (r : Fin 512) (x : Fin 256) :
    scores (twice q) k (ix2 ⟨h * 512 + r.val, by omega⟩ x)
      = ∑ d : Fin 64, q (ix2 r ⟨h * 64 + d.val, by omega⟩) * k (ix3 0 x ⟨h * 64 + d.val, by omega⟩) := by
  rw [scores_at, ← sum_half (fun l => q (ix2 r l) * k (ix3 0 x l)) h hh]
  refine Finset.sum_congr rfl fun l _ => ?_
  rw [twice_at]
  have e : (h * 512 + r.val) / 512 = h := by omega
  have e' : (h * 512 + r.val) % 512 = r.val := by omega
  simp only [e, e']
  split
  · rfl
  · exact zero_mul _

/-- One pair's piece at an entry: the read of its head, gated. -/
theorem pair_at (q : FVec Ideal S512x128 .bf16) (k v : Vec Ideal S1x256x128 .bf16) (gate : FVec Ideal S512x128 .f32) (r : Fin 512) (l : Fin 128) :
    halves (attend (expo (scores (twice q) k)) v) gate (ix3 0 r l)
      = kread (fun x => ∑ d : Fin 64, q (ix2 r ⟨l.val / 64 * 64 + d.val, by omega⟩) * k (ix3 0 x ⟨l.val / 64 * 64 + d.val, by omega⟩)) (fun x => v (ix3 0 x l))
          * gate (ix2 r l) := by
  rw [halves_at, attend_at]
  simp only [expo_at, score_at q k (l.val / 64) (by omega) r]
  rfl

end Cert.KernelIdeal.ProjValue

end
-- ==== Proof.ProjFinal.lean ====
/- The projection call (`kernel`): the first result. -/
module

public import proofs.«01_k».proof.Defs
public import proofs.«01_k».proof.Proof.Gen.KernelIdeal.Value
public import proofs.«01_k».proof.Proof.ProjMem
public import Idealize.ShloMosaic.Lib.Pipeline.ValueKit
public import Idealize.ShloMosaic.Lib.Pipeline.ReadBack
public import Idealize.ShloMosaic.Lib.Pointwise
public import Idealize.ShloMosaic.Lib.Tactic.ValueTie

@[expose] public section

set_option maxRecDepth 16384

noncomputable section

open Idealize.ShloMosaic Idealize.ShloMosaic.TcCoe Idealize.SL.Sem
open Idealize.ShloMosaic.Pipeline (Dat)
open Cert.Proof.Shared

namespace Cert.KernelIdeal.ProjValue

open Cert.KernelIdeal Cert.KernelIdeal.Gen

variable (m : (ℓ : Loc nD τ sig) → Buf (Elt Ideal) ℓ)

/-- The gating's values, normalised within their head. -/
def vnorm (x : Vec Ideal S4x4096x1024 .f32) (g : Vec Ideal S1x1024 .f32) (w : Vec Ideal S1x1024x3328 .f32) (vg : Vec Ideal S1x4x64 .f32)
    (b : Fin 4) (r : Fin 4096) (c : Fin 256) : EReal :=
  pj x g w b r (sec 256 (by decide) c) * headScale (fun j => pj x g w b r (sec 256 (by decide) j)) (headOf c) * vg (ix3 0 (headOf c) (inHead c))
/-- The first 256 lanes: the causal mixing within the chunk of 128 rows, its bias, and the two gates. -/
def gated (x : Vec Ideal S4x4096x1024 .f32) (g : Vec Ideal S1x1024 .f32) (w : Vec Ideal S1x1024x3328 .f32) (vg : Vec Ideal S1x4x64 .f32)
    (ws : Vec Ideal S1x4x128x128 .f32) (gb : Vec Ideal S1x4x128 .f32) (b : Fin 4) (r : Fin 4096) (c : Fin 256) : EReal :=
  pj x g w b r (sec 0 (by decide) c) *
    ((∑ s : Fin 128, (if s.val ≤ r.val % 128 then ws (ix4 0 (headOf c) ⟨r.val % 128, by omega⟩ s) else 0)
        * vnorm x g w vg b ⟨r.val / 128 * 128 + s.val, by omega⟩ c) + gb (ix3 0 (headOf c) ⟨r.val % 128, by omega⟩))
    * silu (pj x g w b r (sec 512 (by decide) c))
/-- The queries to the memory. -/
def mquery (x : Vec Ideal S4x4096x1024 .f32) (g : Vec Ideal S1x1024 .f32) (w : Vec Ideal S1x1024x3328 .f32) (mg : Vec Ideal S1x64 .f32)
    (b : Fin 4) (r : Fin 4096) (c : Fin 256) : EReal :=
  pj x g w b r (sec 2816 (by decide) c) * headScale (fun j => pj x g w b r (sec 2816 (by decide) j)) (headOf c) * scaled (mg (ix2 0 (inHead c)))
/-- The other 256 lanes: the read of the memory by the lane's head, gated. -/
def recalled (x : Vec Ideal S4x4096x1024 .f32) (g : Vec Ideal S1x1024 .f32) (w : Vec Ideal S1x1024x3328 .f32) (mg : Vec Ideal S1x64 .f32)
    (mk mv : Vec Ideal S4x256x256 .bf16) (b : Fin 4) (r : Fin 4096) (c : Fin 256) : EReal :=
  kread (fun y => ∑ d : Fin 64, mquery x g w mg b r (lane (headOf c) d) * mk (ix3 b y (lane (headOf c) d))) (fun y => mv (ix3 b y c))
    * silu (pj x g w b r (sec 3072 (by decide) c))
def yFn (x : Vec Ideal S4x4096x1024 .f32) (g : Vec Ideal S1x1024 .f32) (w : Vec Ideal S1x1024x3328 .f32) (vg : Vec Ideal S1x4x64 .f32)
    (ws : Vec Ideal S1x4x128x128 .f32) (gb : Vec Ideal S1x4x128 .f32) (mg : Vec Ideal S1x64 .f32)
    (mk mv : Vec Ideal S4x256x256 .bf16) : Vec Ideal S4x4096x512 .bf16 :=
  fun i => if h : (i 2).val < 256 then gated x g w vg ws gb (i 0) (i 1) ⟨(i 2).val, h⟩
    else recalled x g w mg mk mv (i 0) (i 1) ⟨(i 2).val - 256, by have := (i 2).isLt; change (i 2).val < 512 at this; omega⟩

/-- The stored piece of the first 256 lanes. -/
theorem gated_at (c : Dev nD) (t : Fin grid0.N) (w0 w1 w2 : Vec Ideal S1024x256 .bf16)
    (h0 : ∀ (k : Fin 1024) (i : Fin 256), w0 (ix2 k i) = iblk m c 2 t (ix2 k (sec 0 (by decide) i)))
    (h1 : ∀ (k : Fin 1024) (i : Fin 256), w1 (ix2 k i) = iblk m c 2 t (ix2 k (sec 256 (by decide) i)))
    (h2 : ∀ (k : Fin 1024) (i : Fin 256), w2 (ix2 k i) = iblk m c 2 t (ix2 k (sec 512 (by decide) i)))
    (s0 s1 s2 s3 : Vec Ideal S1x128x128 .f32)
    (hs : ∀ (h : Fin 4) (a s : Fin 128), (![s0, s1, s2, s3] h) (ix3 0 a s) = iblk m c 4 t (ix3 h a s)) (r : Fin 512) (i : Fin 256) :
    k0_pay37 (k0_pay2 (iblk m c 0 t) (iblk m c 1 t))
      (k0_pay36 k0_pay3 (k0_pay29 (k0_pay27 (k0_pay2 (iblk m c 0 t) (iblk m c 1 t)) w1) (k0_pay28 (k0_pay2 (iblk m c 0 t) (iblk m c 1 t)) w1 (iblk m c 9 t)) (iblk m c 3 t))
        (k0_pay31 s2) (k0_pay32 s3) (k0_pay33 s0 s1)
        (k0_pay34 k0_pay3 (k0_pay27 (k0_pay2 (iblk m c 0 t) (iblk m c 1 t)) w1) (k0_pay28 (k0_pay2 (iblk m c 0 t) (iblk m c 1 t)) w1 (iblk m c 9 t)) (iblk m c 3 t) s0 s1)
        (k0_pay35 (k0_pay27 (k0_pay2 (iblk m c 0 t) (iblk m c 1 t)) w1) (k0_pay28 (k0_pay2 (iblk m c 0 t) (iblk m c 1 t)) w1 (iblk m c 9 t)) (iblk m c 3 t) s0 s1))
      (iblk m c 5 t) w0 w2 (ix3 0 r i)
      = gated (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (seqOf t) (rowOf t r) i := by
  rw [pay37_at, pay36_at, dot_at m c t 0 (by decide) w0 h0, dot_at m c t 512 (by decide) w2 h2, blk_gb m c t]
  unfold gated mixed
  have e1 : (rowOf t r).val % 128 = r.val % 128 := by simp only [rowOf]; omega
  have e2 (s : Fin 128) : (⟨(rowOf t r).val / 128 * 128 + s.val, by omega⟩ : Fin 4096) = rowOf t ⟨r.val / 128 * 128 + s.val, by omega⟩ :=
    Fin.ext (by simp only [rowOf]; omega)
  simp only [e1, e2]
  refine congrArg (fun z : EReal => z * (_ : EReal)) (congrArg (fun z : EReal => (_ : EReal) * z) (congrArg (fun z : EReal => z + (_ : EReal)) (Finset.sum_congr rfl fun s _ => ?_)))
  rw [hs, blk_ws m c t, pay29_at]
  refine congrArg (HMul.hMul _) ?_
  refine (pay16_at _ _ _ (blk_bd m c t) _ _ _).trans ?_
  unfold vnorm
  simp only [dot_at m c t 256 (by decide) w1 h1]
  rw [blk_vg m c t]

theorem pay39_at (z : FVec Ideal S512x256 .f32) (i : S512x256.Idx) : k0_pay39 z i = z i := rfl

/-- The queries at the grid point. -/
theorem mquery_at (c : Dev nD) (t : Fin grid0.N) (w : Vec Ideal S1024x256 .bf16)
    (hw : ∀ (k : Fin 1024) (i : Fin 256), w (ix2 k i) = iblk m c 2 t (ix2 k (sec 2816 (by decide) i))) (r : Fin 512) (i : Fin 256) :
    k0_pay39 (k0_pay38 (k0_pay2 (iblk m c 0 t) (iblk m c 1 t)) w (iblk m c 9 t) (iblk m c 8 t)) (ix2 r i)
      = mquery (m ((c : Thread nD τ).loc main_arg0)) (m ((c : Thread nD τ).loc main_arg1)) (m ((c : Thread nD τ).loc main_arg2))
          (m ((c : Thread nD τ).loc main_arg8)) (seqOf t) (rowOf t r) i := by
  rw [pay39_at]
  rw [pay38_eq]
  refine (pay16_at _ _ _ (blk_bd m c t) _ _ _).trans ?_
  unfold mquery
  simp only [dot_at m c t 2816 (by decide) w hw]
  rw [blk_mg m c t]

/-- The stored piece of pair `p` of the memory heads. -/
theorem recalled_at (c : Dev nD) (t : Fin grid0.N) (p : Nat) (hp : p < 2) (q : FVec Ideal S512x128 .bf16) (k v : Vec Ideal S1x256x128 .bf16)
    (gate : FVec Ideal S512x128 .f32)
    (hq : ∀ (r : Fin 512) (l : Fin 128), q (ix2 r l) = mquery (m ((c : Thread nD τ).loc main_arg0)) (m ((c : Thread nD τ).loc main_arg1)) (m ((c : Thread nD τ).loc main_arg2))
          (m ((c : Thread nD τ).loc main_arg8)) (seqOf t) (rowOf t r) ⟨p * 128 + l.val, by omega⟩)
    (hk : ∀ (y : Fin 256) (l : Fin 128), k (ix3 0 y l) = m ((c : Thread nD τ).loc main_arg9) (ix3 (seqOf t) y ⟨p * 128 + l.val, by omega⟩))
    (hv : ∀ (y : Fin 256) (l : Fin 128), v (ix3 0 y l) = m ((c : Thread nD τ).loc main_arg10) (ix3 (seqOf t) y ⟨p * 128 + l.val, by omega⟩))
    (hg : ∀ (r : Fin 512) (l : Fin 128), gate (ix2 r l) = silu (pj (m ((c : Thread nD τ).loc main_arg0)) (m ((c : Thread nD τ).loc main_arg1)) (m ((c : Thread nD τ).loc main_arg2))
          (seqOf t) (rowOf t r) (sec 3072 (by decide) ⟨p * 128 + l.val, by omega⟩)))
    (r : Fin 512) (l : Fin 128) :
    halves (attend (expo (scores (twice q) k)) v) gate (ix3 0 r l)
      = recalled (m ((c : Thread nD τ).loc main_arg0)) (m ((c : Thread nD τ).loc main_arg1)) (m ((c : Thread nD τ).loc main_arg2))
          (m ((c : Thread nD τ).loc main_arg8)) (m ((c : Thread nD τ).loc main_arg9)) (m ((c : Thread nD τ).loc main_arg10)) (seqOf t) (rowOf t r) ⟨p * 128 + l.val, by omega⟩ := by
  rw [pair_at]
  unfold recalled
  simp only [hq, hk, hv, hg]
  have e (d : Fin 64) : (⟨p * 128 + (l.val / 64 * 64 + d.val), by omega⟩ : Fin 256) = lane (headOf ⟨p * 128 + l.val, by omega⟩) d :=
    Fin.ext (by simp only [lane, headOf]; omega)
  simp only [e]
theorem yFn_lo (x : Vec Ideal S4x4096x1024 .f32) (g : Vec Ideal S1x1024 .f32) (w : Vec Ideal S1x1024x3328 .f32) (vg : Vec Ideal S1x4x64 .f32)
    (ws : Vec Ideal S1x4x128x128 .f32) (gb : Vec Ideal S1x4x128 .f32) (mg : Vec Ideal S1x64 .f32)
    (mk mv : Vec Ideal S4x256x256 .bf16) (b : Fin 4) (r : Fin 4096) (j : Fin 512) (l : Fin 256) (h : j.val = l.val) :
    yFn x g w vg ws gb mg mk mv (ix3 b r j) = gated x g w vg ws gb b r l := by
  obtain ⟨jv, hj⟩ := j
  obtain rfl : jv = l.val := h
  exact dif_pos l.isLt
theorem yFn_hi (x : Vec Ideal S4x4096x1024 .f32) (g : Vec Ideal S1x1024 .f32) (w : Vec Ideal S1x1024x3328 .f32) (vg : Vec Ideal S1x4x64 .f32)
    (ws : Vec Ideal S1x4x128x128 .f32) (gb : Vec Ideal S1x4x128 .f32) (mg : Vec Ideal S1x64 .f32)
    (mk mv : Vec Ideal S4x256x256 .bf16) (b : Fin 4) (r : Fin 4096) (j : Fin 512) (l : Fin 256) (h : j.val = 256 + l.val) :
    yFn x g w vg ws gb mg mk mv (ix3 b r j) = recalled x g w mg mk mv b r l := by
  obtain ⟨jv, hj⟩ := j
  obtain rfl : jv = 256 + l.val := h
  have hn : ¬ 256 + l.val < 256 := by omega
  refine (dif_neg hn).trans ?_
  exact congrArg (recalled x g w mg mk mv b r) (Fin.ext (Nat.add_sub_cancel_left 256 l.val))

theorem half_at (z : FVec Ideal S512x256 .f32) (q : Nat) (sl : S512x256.Slices ![0, q] S512x128) (r : Fin 512) (l : Fin 128) (hq : q + l.val < 256) :
    extractStridedSlice S512x128 ![0, q] z sl (ix2 r l) = z (ix2 r ⟨q + l.val, hq⟩) :=
  congrArg z (funext (Fin.forall_fin_two.2 ⟨Fin.ext (Nat.zero_add _), rfl⟩))
theorem half16_at (z : FVec Ideal S512x256 .bf16) (q : Nat) (sl : S512x256.Slices ![0, q] S512x128) (r : Fin 512) (l : Fin 128) (hq : q + l.val < 256) :
    extractStridedSlice S512x128 ![0, q] z sl (ix2 r l) = z (ix2 r ⟨q + l.val, hq⟩) :=
  half_at z q sl r l hq
theorem ld_kv (K : Vec Ideal S1x256x256 .bf16) (off : Nat) (h : off + 128 ≤ 256) (inb : ∀ a, (![0, 0, off] : Fin 3 → Nat) a + S1x256x128.size a ≤ S1x256x256.size a)
    (y : Fin 256) (l : Fin 128) : View.ld K (Rect.unit ![0, 0, off] ![1, 256, 128] inb) (ix3 0 y l) = K (ix3 0 y ⟨off + l.val, by omega⟩) :=
  View.ld_unit_apply_of K ![0, 0, off] ![1, 256, 128] inb _ _ (Fin.forall_fin_succ.2 ⟨rfl, Fin.forall_fin_two.2 ⟨(Nat.zero_add _).symm, rfl⟩⟩)
theorem ld_ws (W : Vec Ideal S4x128x128 .f32) (n : Nat) (h : n < 4) (inb : ∀ a, (![n, 0, 0] : Fin 3 → Nat) a + S1x128x128.size a ≤ S4x128x128.size a)
    (a s : Fin 128) : View.ld W (Rect.unit ![n, 0, 0] ![1, 128, 128] inb) (ix3 0 a s) = W (ix3 ⟨n, h⟩ a s) :=
  View.ld_unit_apply_of W ![n, 0, 0] ![1, 128, 128] inb _ _ (Fin.forall_fin_succ.2 ⟨rfl, Fin.forall_fin_two.2 ⟨(Nat.zero_add _).symm, (Nat.zero_add _).symm⟩⟩)

set_option maxHeartbeats 2000000 in
theorem final12 (c : Dev nD) : (dats m 0 c).arrAt 12 cfg0.N
    = yFn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  rw [after0_12]
  unfold outsAt0
  frame_out
  idx_vars y
  have he : (((View.whole main_v30_0).slice (win0_12.rect t)).emb (ix3 y0 y1 y2) : S4x4096x512.Idx) = ix3 (seqOf t) (rowOf t y1) y2 := by
    blk_ext [idx t, seqOf, rowOf]
  rw [he]
  obtain rfl : y0 = 0 := Subsingleton.elim _ _
  canon_tiles x h using View.cover_of_tiledBy _ ![1, 512, 128] (by sl_kernel_rfl) _ <;> idx_vars x <;> obtain rfl : x0 = 0 := Subsingleton.elim _ _ <;> obtain rfl : y1 = x1 := Fin.ext h1
  · refine Eq.trans ?_ (yFn_hi _ _ _ _ _ _ _ _ _ _ _ _ ⟨1 * 128 + x2.val, by omega⟩ (by simp only []; omega)).symm
    rw [pay1_eq]
    refine recalled_at m c t 1 (by decide) _ _ _ _ (fun r l => ?_) (fun y l => ?_) (fun y l => ?_) (fun r l => ?_) y1 x2
    · exact (half16_at _ _ _ r l (by omega)).trans (mquery_at m c t _ (fun k i => ld_w _ _ _ _ k i) _ _)
    · exact (ld_kv _ _ (by decide) _ y l).trans (blk_mk m c t _ _)
    · exact (ld_kv _ _ (by decide) _ y l).trans (blk_mv m c t _ _)
    · refine (half_at _ _ _ r l (by omega)).trans ((pay40_at _ _ _ _).trans (congrArg silu ?_))
      exact dot_at m c t 3072 (by decide) _ (fun k i => ld_w _ _ _ _ k i) _ _
  · refine Eq.trans ?_ (yFn_hi _ _ _ _ _ _ _ _ _ _ _ _ ⟨0 * 128 + x2.val, by omega⟩ (by simp only []; omega)).symm
    rw [pay44_eq]
    refine recalled_at m c t 0 (by decide) _ _ _ _ (fun r l => ?_) (fun y l => ?_) (fun y l => ?_) (fun r l => ?_) y1 x2
    · exact (half16_at _ _ _ r l (by omega)).trans (mquery_at m c t _ (fun k i => ld_w _ _ _ _ k i) _ _)
    · exact (ld_kv _ _ (by decide) _ y l).trans (blk_mk m c t _ _)
    · exact (ld_kv _ _ (by decide) _ y l).trans (blk_mv m c t _ _)
    · refine (half_at _ _ _ r l (by omega)).trans ((pay40_at _ _ _ _).trans (congrArg silu ?_))
      exact dot_at m c t 3072 (by decide) _ (fun k i => ld_w _ _ _ _ k i) _ _
  · refine Eq.trans ?_ (yFn_lo _ _ _ _ _ _ _ _ _ _ _ _ x2 (by omega)).symm
    refine gated_at m c t _ _ _ (fun k i => ld_w _ _ _ _ k i) (fun k i => ld_w _ _ _ _ k i) (fun k i => ld_w _ _ _ _ k i) _ _ _ _ (fun h a s => ?_) y1 x2
    fin_cases h
    · exact ld_ws (iblk m c 4 t) 0 (by decide) inb_S4x128x128_S1x128x128_0_0_0 a s
    · exact ld_ws (iblk m c 4 t) 1 (by decide) inb_S4x128x128_S1x128x128_1_0_0 a s
    · exact ld_ws (iblk m c 4 t) 2 (by decide) inb_S4x128x128_S1x128x128_2_0_0 a s
    · exact ld_ws (iblk m c 4 t) 3 (by decide) inb_S4x128x128_S1x128x128_3_0_0 a s

end Cert.KernelIdeal.ProjValue

end
-- ==== Proof.Soft.lean ====
/- A read of the memory, weights first and one division, against the quotient of each weight first. -/
module

public import proofs.«01_k».proof.Proof.ProjFinal

@[expose] public section

noncomputable section

namespace Cert.Proof.Soft

open Idealize.ShloMosaic
open Cert.Proof.Shared
open Cert.KernelIdeal.ProjValue (peak kread scaled)

/-- Neither infinity. -/
def Finite' (v : EReal) : Prop := ∃ a : ℝ, v = (a : EReal)

theorem Finite'.mul {v w : EReal} (hv : Finite' v) (hw : Finite' w) : Finite' (v * w) := by
  obtain ⟨a, rfl⟩ := hv
  obtain ⟨b, rfl⟩ := hw
  exact ⟨a * b, (EReal.coe_mul a b).symm⟩

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem Finite'.sum {ι : Type} (s : Finset ι) (f : ι → EReal) (hf : ∀ i, Finite' (f i)) : Finite' (∑ i ∈ s, f i) := by
  choose g hg using hf
  refine ⟨∑ i ∈ s, g i, ?_⟩
  rw [coe_sum]
  exact Finset.sum_congr rfl fun i _ => hg i

theorem neg_inf : Ideal.ofBits .f32 0xFF800000#32 = (⊥ : EReal) := by
  simp [Ideal.ofBits, Ideal.ieee]

theorem scale_eq : Ideal.ofBits .f32 0x3E000000#32 = ((1 / 8 : ℝ) : EReal) := by
  simp [Ideal.ofBits, Ideal.ieee, -EReal.coe_mul]; norm_num

theorem eps_pos : ∃ a : ℝ, 0 < a ∧ eps = (a : EReal) := by
  refine ⟨_, ?_, show Ideal.ofBits .f32 0x358637BD#32 = _ from by simp [Ideal.ofBits, Ideal.ieee, -EReal.coe_mul]; rfl⟩
  norm_num

theorem peak_attained (s : Fin 256 → EReal) : ∃ y, peak s = s y ∧ ∀ x, s x ≤ s y := by
  obtain ⟨y, _, hy⟩ := Finset.exists_max_image Finset.univ s ⟨0, Finset.mem_univ _⟩
  refine ⟨y, le_antisymm ?_ ?_, fun x => hy x (Finset.mem_univ _)⟩
  · exact (Finset.fold_max_le _).2 ⟨by rw [neg_inf]; exact bot_le, hy⟩
  · exact (Finset.le_fold_max _).2 (.inr ⟨y, Finset.mem_univ _, le_rfl⟩)

/-- The largest of real scores is real, so the sum of the exponentials is a positive real. -/
theorem kread_eq (s v : Fin 256 → EReal) (hs : ∀ x, Finite' (s x)) :
    kread s v = ∑ x : Fin 256, v x * Ideal.div (Ideal.exp (s x - max (Ideal.ofBits .f32 0xFF800000#32) (peak s)))
      (∑ y : Fin 256, Ideal.exp (s y - max (Ideal.ofBits .f32 0xFF800000#32) (peak s))) := by
  rw [neg_inf, max_eq_right bot_le]
  unfold kread
  obtain ⟨y, hy, _⟩ := peak_attained s
  rw [hy]
  choose g hg using hs
  have he (x : Fin 256) : Ideal.exp (s x - s y) = ((Real.exp (g x - g y) : ℝ) : EReal) := by
    rw [hg x, hg y, ← EReal.coe_sub]; rfl
  simp only [he]
  have hd : ∑ x : Fin 256, ((Real.exp (g x - g y) : ℝ) : EReal) = ((∑ x : Fin 256, Real.exp (g x - g y) : ℝ) : EReal) :=
    (coe_sum _ _).symm
  rw [hd]
  have hp : 0 < ∑ x : Fin 256, Real.exp (g x - g y) := Finset.sum_pos (fun x _ => Real.exp_pos _) ⟨0, Finset.mem_univ _⟩
  rw [Ideal.div_coe hp.ne', one_mul, sum_mul_coe _ _ (by positivity)]
  refine Finset.sum_congr rfl fun x _ => ?_
  rw [Ideal.div_coe hp.ne', mul_comm _ (v x), mul_assoc]

/-- An entry over the root mean square of its head is real, whatever the row holds. -/
theorem headed_fin (f : Fin 256 → EReal) (h : Fin 4) (d : Fin 64) : Finite' (f (lane h d) * headScale f h) := by
  unfold headScale
  rw [ofBits_64, Ideal.div_coe (by norm_num)]
  obtain ⟨e, he, hE⟩ := eps_pos
  rw [hE]
  have sq (z : EReal) : 0 ≤ z * z := by
    rcases le_total 0 z with hz | hz
    · exact mul_nonneg hz hz
    · have := mul_nonneg (EReal.neg_nonneg.2 hz) (EReal.neg_nonneg.2 hz)
      rwa [neg_mul_neg] at this
  have hS : 0 ≤ ∑ e : Fin 64, f (lane h e) * f (lane h e) := Finset.sum_nonneg fun e _ => sq _
  have hle : f (lane h d) * f (lane h d) ≤ ∑ e : Fin 64, f (lane h e) * f (lane h e) :=
    Finset.single_le_sum (f := fun e => f (lane h e) * f (lane h e)) (fun e _ => sq _) (Finset.mem_univ d)
  generalize ∑ e : Fin 64, f (lane h e) * f (lane h e) = S at hS hle
  generalize f (lane h d) = z at hle
  have c : (0 : ℝ) < 1 / 64 := by norm_num
  induction S with
  | bot => exact absurd hS (by simp)
  | top =>
    rw [EReal.top_mul_coe_of_pos c, EReal.top_add_coe]
    exact ⟨0, (mul_zero z)⟩
  | coe S =>
    have hS' : 0 ≤ S := EReal.coe_nonneg.1 hS
    rw [← EReal.coe_mul, ← EReal.coe_add]
    have hp : 0 < S * (1 / 64) + e := by positivity
    have hr : Ideal.rsqrt ((S * (1 / 64) + e : ℝ) : EReal) = (((Real.sqrt (S * (1 / 64) + e))⁻¹ : ℝ) : EReal) := by
      show (if _ < _ then _ else if _ = _ then _ else _) = _
      rw [if_neg hp.le.not_gt, if_neg hp.ne']
    rw [hr]
    refine Finite'.mul ?_ ⟨_, rfl⟩
    induction z with
    | bot => exact absurd hle (by simp)
    | top => exact absurd hle (by simp)
    | coe z => exact ⟨z, rfl⟩

/-- The factor on the gain, against the factor on the scores. -/
theorem score_eq (a g k : Fin 64 → EReal) :
    ∑ d : Fin 64, a d * scaled (g d) * k d = (∑ d : Fin 64, a d * g d * k d) * Ideal.ofBits .f32 0x3E000000#32 := by
  rw [scale_eq, sum_mul_coe _ _ (by norm_num)]
  refine Finset.sum_congr rfl fun d _ => ?_
  unfold scaled Cert.KernelIdeal.ProjValue.scale
  rw [scale_eq, ← mul_assoc, mul_right_comm]

end Cert.Proof.Soft

end
-- ==== Proof.ProjRef.lean ====
/- The reference of the projection call: its intermediate arrays at an index, and what the precondition says. -/
module

public import proofs.«01_k».proof.Defs
public import proofs.«01_k».proof.Proof.Gen.KernelIdeal.Value
public import proofs.«01_k».proof.Proof.Gen.ReferenceIdeal.Run
public import proofs.«01_k».proof.Proof.ProjFinal
public import proofs.«01_k».proof.Proof.Soft
public import Idealize.ShloMosaic.Lib.WordArith
public import proofs.«01_k».proof.Proof.Gen.Kernel.Frame
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.ValueTie

@[expose] public section

set_option maxRecDepth 16384

noncomputable section

namespace Cert.Proof.Proj

open Idealize.ShloMosaic Cert.ReferenceIdeal Cert.ReferenceIdeal.Gen Cert.ReferenceIdeal.Value
open Cert.Proof.Shared Cert.Proof.Soft
open Idealize.ShloMosaic.StableHlo
open Cert.KernelIdeal.ProjValue (pj sec sec8 silu headed sgFn qFn kFn vFn yFn pairLane scaled peak kread mquery vnorm gated recalled)

variable (V0 : Valuation τ sig (Elt Ideal))

/-- The reference's product of the normalised rows with all columns. -/
theorem v15_at (b : Fin 4) (r : Fin 4096) (j : Fin 3328) :
    res_main_v15 V0 (ix3 b r j) = pj (V0 (Proc.devRef .tc main_arg0)) (V0 (Proc.devRef .tc main_arg1)) (V0 (Proc.devRef .tc main_arg2)) b r j := by
  unfold res_main_v15 pj normRow
  generalize V0 (Proc.devRef .tc main_arg0) = x
  generalize V0 (Proc.devRef .tc main_arg1) = g
  generalize V0 (Proc.devRef .tc main_arg2) = w
  clean_types
  pointwise

/-- The reference's queries to the memory, before their gain. -/
def aq (b : Fin 4) (r : Fin 4096) (c : Fin 256) : EReal :=
  pj (V0 (Proc.devRef .tc main_arg0)) (V0 (Proc.devRef .tc main_arg1)) (V0 (Proc.devRef .tc main_arg2)) b r (sec 2816 (by decide) c)
    * headScale (fun j => pj (V0 (Proc.devRef .tc main_arg0)) (V0 (Proc.devRef .tc main_arg1)) (V0 (Proc.devRef .tc main_arg2)) b r (sec 2816 (by decide) j)) (headOf c)

/-- The reference's scores. -/
theorem v115_at (x8 : Vec Ideal Cert.KernelIdeal.S1x64 .f32) (h8 : V0 (Proc.devRef .tc main_arg8) = x8)
    (x9 : Vec Ideal Cert.KernelIdeal.S4x256x256 .bf16) (h9 : V0 (Proc.devRef .tc main_arg9) = x9) (b h : Fin 4) (r : Fin 4096) (y : Fin 256) :
    res_main_v115 V0 (ix4 b h r y)
      = (∑ d : Fin 64, aq V0 b r (lane h d) * x8 (ix2 0 d) * x9 (ix3 b y (lane h d))) * Ideal.ofBits .f32 0x3E000000#32 := by
  unfold res_main_v115 res_main_v98 aq headScale
  simp only [← v15_at]
  rw [h8, h9]
  generalize res_main_v15 V0 = z
  clean_types
  pointwise
  have e (d : Fin 64) : headOf (lane h d) = h := Fin.ext (by simp only [headOf, lane]; omega)
  simp only [e]
  rfl

/-- The largest score of a row. -/
theorem rowmax_at (z : FVec Ideal S4x4x4096x256 .f32) (b h : Fin 4) (r : Fin 4096) :
    Host.reduce FloatOps.maximumf z (constant S_ .f32 0xFF800000#32) reducesTo_S4x4x4096x256_S4x4x4096_d3 h_S_ (ix3 b h r)
      = peak fun y => z (ix4 b h r y) := by
  unfold peak
  pointwise

/-- Exponentials of scores less a number of the row's own. -/
theorem shifted_at (z : FVec Ideal S4x4x4096x256 .f32) (M : FVec Ideal S4x4x4096 .f32) (b h : Fin 4) (r : Fin 4096) (y : Fin 256) :
    Host.exp (subf z (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) M)))) (ix4 b h r y)
      = Ideal.exp (z (ix4 b h r y) - max (Ideal.ofBits .f32 0xFF800000#32) (M (ix3 b h r))) := by
  pointwise

/-- The reference's weights, before their quotient. -/
theorem v122_at (b h : Fin 4) (r : Fin 4096) (S : Fin 256 → EReal) (hS : ∀ y, res_main_v115 V0 (ix4 b h r y) = S y) (y : Fin 256) :
    res_main_v122 V0 (ix4 b h r y) = Ideal.exp (S y - max (Ideal.ofBits .f32 0xFF800000#32) (peak S)) := by
  have e : S = fun y => res_main_v115 V0 (ix4 b h r y) := funext fun y => (hS y).symm
  rw [e]
  have h1 := shifted_at (res_main_v115 V0) (Host.reduce FloatOps.maximumf (res_main_v115 V0 : FVec Ideal S4x4x4096x256 .f32) (constant S_ .f32 0xFF800000#32) reducesTo_S4x4x4096x256_S4x4x4096_d3 h_S_) b h r y
  rw [rowmax_at] at h1
  exact h1

theorem select_sge {α : Type} (a b : Nat) (ha : a < 2 ^ 31) (hb : b < 2 ^ 31) (x y : α) :
    Scalar.select (IntOp.cmpi .sge (IntOp.addi (BitVec.ofNat 32 a) 0#32) (BitVec.ofNat 32 b)) x y = if b ≤ a then x else y := by
  have e : IntOp.addi (BitVec.ofNat 32 a) 0#32 = BitVec.ofNat 32 a := by
    show BitVec.ofNat 32 a + 0#32 = _
    simp
  rw [e, WordCmp.cmpi_sge_ofNat ha hb]
  unfold Scalar.select
  by_cases h : b ≤ a <;> simp [h]

instance pre : Cert.Pre_finite_keys.Facts := ⟨by decide, by decide⟩

theorem inf32 : Ideal.ofBits .f32 2139095040#32 = (⊤ : EReal) := by
  simp [Ideal.ofBits, Ideal.ieee]

theorem inf16 : Ideal.ofBits .bf16 32640#16 = (⊤ : EReal) := by
  simp [Ideal.ofBits, Ideal.ieee]

theorem finite_of {f : FTy} (v : Ideal f) (w : Ideal f) (hw : w = (⊤ : EReal)) (h : BitVec.ofBool (decide (FloatOps.absf v < w)) = 1#1) : Finite' v := by
  subst hw
  have h' : FloatOps.absf v < (⊤ : EReal) := by
    by_contra hn
    simp [hn] at h
  change max (v : EReal) (-v : EReal) < ⊤ at h'
  rw [max_lt_iff] at h'
  induction v using EReal.rec with
  | bot => simp at h'
  | top => simp at h'
  | coe a => exact ⟨a, rfl⟩

/-- What the precondition says of the two arrays it names. -/
theorem finite_keys (m : (ℓ : Loc Cert.KernelIdeal.nD Cert.KernelIdeal.τ Cert.KernelIdeal.sig) → Buf (Elt Ideal) ℓ)
    (h : Cert.Pre_KernelIdeal_finite_keys m) (c : Dev Cert.KernelIdeal.nD) :
    (∀ d : Fin 64, Finite' (m ((c.tc : Thread Cert.KernelIdeal.nD Cert.KernelIdeal.τ).loc Cert.KernelIdeal.main_arg8) (ix2 0 d)))
      ∧ ∀ (b : Fin 4) (y l : Fin 256), Finite' (m ((c.tc : Thread Cert.KernelIdeal.nD Cert.KernelIdeal.τ).loc Cert.KernelIdeal.main_arg9) (ix3 b y l)) := by
  obtain ⟨h8, h9⟩ := h c
  constructor
  · intro d
    have := congrFun h8 (ix2 0 d)
    revert this
    generalize m ((c.tc : Thread Cert.KernelIdeal.nD Cert.KernelIdeal.τ).loc Cert.KernelIdeal.main_arg8) = g
    clean_types
    pointwise [Cert.Pre_finite_keys.fn]
    exact finite_of _ _ inf32
  · intro b y l
    have := congrFun h9 (ix3 b y l)
    revert this
    generalize m ((c.tc : Thread Cert.KernelIdeal.nD Cert.KernelIdeal.τ).loc Cert.KernelIdeal.main_arg9) = g
    clean_types
    pointwise [Cert.Pre_finite_keys.fn]
    exact finite_of _ _ inf16

end Cert.Proof.Proj

end
-- ==== Proof.ProjValue.lean ====
/- The projection call (`kernel`): its results are the reference's. -/
module

public import proofs.«01_k».proof.Defs
public import proofs.«01_k».proof.Proof.Gen.KernelIdeal.Value
public import proofs.«01_k».proof.Proof.Gen.ReferenceIdeal.Run
public import proofs.«01_k».proof.Proof.ProjFinal
public import proofs.«01_k».proof.Proof.ProjRef
public import proofs.«01_k».proof.Proof.Gen.Kernel.Frame
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.Tactic.ValueTie

@[expose] public section

set_option maxRecDepth 16384

noncomputable section

namespace Cert.Proof.Proj

open Idealize.ShloMosaic Cert.ReferenceIdeal Cert.ReferenceIdeal.Gen Cert.ReferenceIdeal.Value
open Cert.Proof.Shared Cert.Proof.Soft
open Idealize.ShloMosaic.StableHlo
open Cert.KernelIdeal.ProjValue (pj sec sec8 silu headed sgFn qFn kFn vFn yFn pairLane scaled peak kread mquery vnorm gated recalled yFn_lo yFn_hi)

variable (V0 : Valuation τ sig (Elt Ideal))

/-- The mixed lanes, with the reference's association of the mixing sum. -/
theorem gated_eq (z : Vec Ideal S4x4096x3328 .f32) (x : Vec Ideal Cert.KernelIdeal.S4x4096x1024 .f32) (g : Vec Ideal Cert.KernelIdeal.S1x1024 .f32) (w : Vec Ideal Cert.KernelIdeal.S1x1024x3328 .f32)
    (hz : ∀ b r j, z (ix3 b r j) = pj x g w b r j) (vg : Vec Ideal Cert.KernelIdeal.S1x4x64 .f32) (ws : Vec Ideal Cert.KernelIdeal.S1x4x128x128 .f32) (gb : Vec Ideal Cert.KernelIdeal.S1x4x128 .f32)
    (b : Fin 4) (r : Fin 4096) (l : Fin 256) :
    gated x g w vg ws gb b r l = z (ix3 b r (sec 0 (by decide) l)) *
      ((∑ s : Fin 128, (if s.val ≤ r.val % 128 then z (ix3 b ⟨r.val / 128 * 128 + s.val, by omega⟩ (sec 256 (by decide) l))
          * headScale (fun j => z (ix3 b ⟨r.val / 128 * 128 + s.val, by omega⟩ (sec 256 (by decide) j))) (headOf l) * vg (ix3 0 (headOf l) (inHead l))
          * ws (ix4 0 (headOf l) ⟨r.val % 128, by omega⟩ s) else 0)) + gb (ix3 0 (headOf l) ⟨r.val % 128, by omega⟩))
      * silu (z (ix3 b r (sec 512 (by decide) l))) := by
  unfold gated vnorm
  simp only [← hz]
  refine congrArg (fun z : EReal => z * (_ : EReal)) (congrArg (fun z : EReal => (_ : EReal) * z) (congrArg (fun z : EReal => z + (_ : EReal)) (Finset.sum_congr rfl fun s _ => ?_)))
  split
  · exact mul_comm _ _
  · exact zero_mul _

/-- The lanes read from the memory, with the reference's quotients. -/
theorem recalled_eq (x : Vec Ideal Cert.KernelIdeal.S4x4096x1024 .f32) (g : Vec Ideal Cert.KernelIdeal.S1x1024 .f32) (w : Vec Ideal Cert.KernelIdeal.S1x1024x3328 .f32)
    (mg : Vec Ideal Cert.KernelIdeal.S1x64 .f32) (mk mv : Vec Ideal Cert.KernelIdeal.S4x256x256 .bf16)
    (hx : V0 (Proc.devRef .tc main_arg0) = x) (hg : V0 (Proc.devRef .tc main_arg1) = g) (hw : V0 (Proc.devRef .tc main_arg2) = w)
    (h8 : V0 (Proc.devRef .tc main_arg8) = mg) (h9 : V0 (Proc.devRef .tc main_arg9) = mk)
    (f8 : ∀ d : Fin 64, Finite' (mg (ix2 0 d))) (f9 : ∀ (b : Fin 4) (y l : Fin 256), Finite' (mk (ix3 b y l)))
    (b : Fin 4) (r : Fin 4096) (l : Fin 256) :
    recalled x g w mg mk mv b r l
      = (∑ y : Fin 256, mv (ix3 b y l) * Ideal.div ((res_main_v122 V0 : FVec Ideal S4x4x4096x256 .f32) (ix4 b (headOf l) r y))
            (∑ y : Fin 256, (res_main_v122 V0 : FVec Ideal S4x4x4096x256 .f32) (ix4 b (headOf l) r y)))
        * silu (pj x g w b r (sec 3072 (by decide) l)) := by
  have hS' : (fun y => ∑ d : Fin 64, aq V0 b r (lane (headOf l) d) * scaled (mg (ix2 0 d)) * mk (ix3 b y (lane (headOf l) d)))
      = fun y => ∑ d : Fin 64, mquery x g w mg b r (lane (headOf l) d) * mk (ix3 b y (lane (headOf l) d)) := by
    funext y
    refine Finset.sum_congr rfl fun d _ => ?_
    have e : inHead (lane (headOf l) d) = d := Fin.ext (by simp only [inHead, lane]; omega)
    unfold mquery aq
    rw [e, hx, hg, hw]
  have fin (y : Fin 256) : Finite' (∑ d : Fin 64, mquery x g w mg b r (lane (headOf l) d) * mk (ix3 b y (lane (headOf l) d))) := by
    refine Finite'.sum _ _ fun d => Finite'.mul ?_ (f9 _ _ _)
    have e : headOf (lane (headOf l) d) = headOf l := Fin.ext (by simp only [headOf, lane]; omega)
    unfold mquery
    rw [e]
    refine Finite'.mul (headed_fin (fun j => pj x g w b r (sec 2816 (by decide) j)) (headOf l) d) ?_
    exact Finite'.mul (f8 _) ⟨_, scale_eq⟩
  have hS (y : Fin 256) := ((v115_at V0 mg h8 mk h9 b (headOf l) r y).trans (score_eq _ _ _).symm).trans (congrFun hS' y)
  have hE (y : Fin 256) := v122_at V0 b (headOf l) r _ hS y
  unfold recalled
  rw [kread_eq _ _ fin]
  simp only [hE]

theorem frame_P : Cert.quiescent_Kernel := fun m ρ _ => Cert.Kernel.Gen.frame m ρ
theorem frame_PI : Cert.quiescent_KernelIdeal := fun m ρ _ => Cert.KernelIdeal.Gen.frame m ρ
theorem frame_PI_pre : Cert.quiescent_KernelIdeal_pre_finite_keys := fun m ρ _ => Cert.KernelIdeal.Gen.frame m ρ
theorem frame_RI : Cert.quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)
theorem frame_RI_pre : Cert.quiescent_ReferenceIdeal_pre_finite_keys := fun m ρ _ => frame_RI m ρ trivial
theorem preserves : Cert.preserves_Kernel_KernelIdeal := trivial

theorem algebraic : Cert.algebraic_KernelIdeal_ReferenceIdeal_pre_finite_keys := by
  intro m ρ m' ρ' hpre hag
  refine ⟨_, _, _, _, _, (θ_run Cert.KernelIdeal.defs _ _).mono (fun _ h c => ⟨(h c).1.trans (Cert.KernelIdeal.ProjValue.final12 m c),
      (h c).2.1.trans (Cert.KernelIdeal.ProjValue.final13 m c), (h c).2.2.1.trans (Cert.KernelIdeal.ProjValue.final14 m c),
      (h c).2.2.2.1.trans (Cert.KernelIdeal.ProjValue.final15 m c), (h c).2.2.2.2.1.trans (Cert.KernelIdeal.ProjValue.final16 m c), (h c).2.2.2.2.2⟩)
    (Cert.KernelIdeal.Value.run_blocks (F := Ideal) m ρ), ?_⟩
  refine (θ_run Cert.ReferenceIdeal.defs _ _).mono (fun _ hr c => ⟨(hr c).1.trans ?_, (hr c).2.1.trans ?_, (hr c).2.2.1.trans ?_,
      (hr c).2.2.2.1.trans ?_, (hr c).2.2.2.2.1.trans ?_, (hr c).2.2.2.2.2⟩)
    (Cert.ReferenceIdeal.Value.run (F := Ideal) m' ρ')
  all_goals
    clear hr
    obtain ⟨h0, h1, h2, h3, h4, h5, h6, h7, h8, h9, h10⟩ := hag c
  · rw [← h0, ← h1, ← h2, ← h3, ← h4, ← h5, ← h8, ← h9, ← h10]
    change _ = yFn (launchContents m' c (Proc.devRef .tc main_arg0)) (launchContents m' c (Proc.devRef .tc main_arg1)) (launchContents m' c (Proc.devRef .tc main_arg2))
      (launchContents m' c (Proc.devRef .tc main_arg3)) (launchContents m' c (Proc.devRef .tc main_arg4)) (launchContents m' c (Proc.devRef .tc main_arg5))
      (launchContents m' c (Proc.devRef .tc main_arg8)) (launchContents m' c (Proc.devRef .tc main_arg9)) (launchContents m' c (Proc.devRef .tc main_arg10))
    obtain ⟨f8, f9⟩ := finite_keys m hpre c
    rw [← h8] at f8
    rw [← h9] at f9
    change ∀ d : Fin 64, Finite' (launchContents m' c (Proc.devRef .tc main_arg8) (ix2 0 d)) at f8
    change ∀ (b : Fin 4) (y l : Fin 256), Finite' (launchContents m' c (Proc.devRef .tc main_arg9) (ix3 b y l)) at f9
    clear h0 h1 h2 h3 h4 h5 h6 h7 h8 h9 h10 hag hpre
    generalize launchContents m' c = V0 at f8 f9 ⊢
    have hz := v15_at V0
    have hE := recalled_eq V0 _ _ _ _ _ (V0 (Proc.devRef .tc main_arg10)) rfl rfl rfl rfl rfl f8 f9
    clear f8 f9
    clean_types
    funext i
    idx_vars i
    unfold res_main_v18 res_main_v24 res_main_v26
    generalize res_main_v122 V0 = E at hE ⊢
    generalize res_main_v15 V0 = z at hz ⊢
    by_cases hlt : i2.val < 256
    · rw [yFn_lo (l := ⟨i2.val, hlt⟩) (h := rfl), gated_eq z _ _ _ hz]
      clear hE hz
      pointwise
      rw [dif_pos hlt]
      have e0 : (⟨i2.val / 64 * 64 + i2.val % 64, by omega⟩ : Fin 3328) = sec 0 (by decide) ⟨i2.val, hlt⟩ := Fin.ext (by simp only [sec]; omega)
      have e1 : (⟨256 + (i2.val / 64 * 64 + i2.val % 64), by omega⟩ : Fin 3328) = sec 256 (by decide) ⟨i2.val, hlt⟩ := Fin.ext (by simp only [sec]; omega)
      simp only [e0, e1]
      refine congrArg (fun z : EReal => z * (_ : EReal)) (congrArg (fun z : EReal => (_ : EReal) * z) (congrArg (fun z : EReal => z + (_ : EReal)) (Finset.sum_congr rfl fun s _ => ?_)))
      exact (select_sge (i1.val % 128) s.val (by omega) (by omega) _ _).trans rfl
    · have hb : i2.val - 256 < 256 := by have := i2.isLt; omega
      have hc : i2.val = 256 + (i2.val - 256) := by omega
      rw [yFn_hi (l := ⟨i2.val - 256, hb⟩) (h := hc), hE, ← hz]
      clear hE hz
      pointwise
      rw [dif_neg hlt]
      have e : (⟨(i2.val - 256) / 64 * 64 + (i2.val - 256) % 64, by omega⟩ : Fin 256) = ⟨i2.val - 256, hb⟩ := Fin.ext (by simp only []; omega)
      simp only [e]
      rfl
  · rw [← h0, ← h1, ← h2]
    change _ = sgFn (launchContents m' c (Proc.devRef .tc main_arg0)) (launchContents m' c (Proc.devRef .tc main_arg1)) (launchContents m' c (Proc.devRef .tc main_arg2))
    generalize launchContents m' c = V0
    clean_types
    funext i
    idx_vars i
    refine Eq.trans ?_ (congrArg silu (v15_at V0 i0 i1 (sec8 2304 (by decide) i2)))
    unfold res_main_v22 silu
    generalize res_main_v15 V0 = z
    pointwise
    rfl
  · rw [← h0, ← h1, ← h2, ← h6]
    change _ = qFn (launchContents m' c (Proc.devRef .tc main_arg0)) (launchContents m' c (Proc.devRef .tc main_arg1)) (launchContents m' c (Proc.devRef .tc main_arg2)) (launchContents m' c (Proc.devRef .tc main_arg6))
    generalize launchContents m' c = V0
    clean_types
    funext i
    idx_vars i
    refine Eq.trans ?_ (show headed (fun j => res_main_v15 V0 (ix3 i0 i2 (sec8 768 (by decide) j))) (pairLane i1 i3) * scaled ((V0 (Proc.devRef .tc main_arg6) : Vec Ideal Cert.KernelIdeal.S1x64 .f32) (ix2 0 ⟨(pairLane i1 i3).val % 64, by omega⟩)) = _ from by
      simp only [v15_at]; rfl)
    unfold res_main_v61 headed
    generalize res_main_v15 V0 = z
    pointwise
    have e1 : (⟨768 + ((i1.val * 128 + i3.val) / 64 * 64 + (i1.val * 128 + i3.val) % 64), by omega⟩ : Fin 3328) = sec8 768 (by decide) (pairLane i1 i3) :=
      Fin.ext (by simp only [sec8, pairLane]; omega)
    simp only [e1]
    exact mul_assoc _ _ _
  · rw [← h0, ← h1, ← h2, ← h7]
    change _ = kFn (launchContents m' c (Proc.devRef .tc main_arg0)) (launchContents m' c (Proc.devRef .tc main_arg1)) (launchContents m' c (Proc.devRef .tc main_arg2)) (launchContents m' c (Proc.devRef .tc main_arg7))
    generalize launchContents m' c = V0
    clean_types
    funext i
    idx_vars i
    refine Eq.trans ?_ (show headed (fun j => res_main_v15 V0 (ix3 i0 i2 (sec8 1280 (by decide) j))) (pairLane i1 i3) * ((V0 (Proc.devRef .tc main_arg7) : Vec Ideal Cert.KernelIdeal.S1x64 .f32) (ix2 0 ⟨(pairLane i1 i3).val % 64, by omega⟩) : EReal) = _ from by
      simp only [v15_at]; rfl)
    unfold res_main_v76 headed
    generalize res_main_v15 V0 = z
    pointwise
    have e1 : (⟨1280 + ((i1.val * 2 + i3.val / 64) * 64 + i3.val % 64), by omega⟩ : Fin 3328) = sec8 1280 (by decide) (pairLane i1 i3) :=
      Fin.ext (by simp only [sec8, pairLane]; omega)
    have e2 (x : Fin 64) : (⟨1280 + ((i1.val * 2 + i3.val / 64) * 64 + x.val), by omega⟩ : Fin 3328)
        = sec8 1280 (by decide) ⟨(pairLane i1 i3).val / 64 * 64 + x.val, by omega⟩ := Fin.ext (by simp only [sec8, pairLane]; omega)
    have e3 : (⟨i3.val % 64, by omega⟩ : Fin 64) = ⟨(pairLane i1 i3).val % 64, by omega⟩ := Fin.ext (by simp only [pairLane]; omega)
    simp only [e1, e2, e3]
  · rw [← h0, ← h1, ← h2]
    change _ = vFn (launchContents m' c (Proc.devRef .tc main_arg0)) (launchContents m' c (Proc.devRef .tc main_arg1)) (launchContents m' c (Proc.devRef .tc main_arg2))
    generalize launchContents m' c = V0
    clean_types
    funext i
    idx_vars i
    refine Eq.trans ?_ (v15_at V0 i0 i2 (sec8 1792 (by decide) (pairLane i1 i3)))
    generalize res_main_v15 V0 = z
    pointwise
    rfl

end Cert.Proof.Proj

end
-- ==== Proof.OutValue.lean ====
/- The output projection (`kernel2`): the array that the pipelined call leaves is the residual plus the product of the
   joined mixer outputs with the output weights, index by index. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Quiescent
public import Idealize.ShloMosaic.Lib.Tactic.ValueTie
public import proofs.«01_k».proof.Proof.Gen.Kernel2.Frame

@[expose] public section

set_option maxRecDepth 16384

noncomputable section

open Idealize.ShloMosaic Idealize.ShloMosaic.TcCoe Idealize.SL.Sem
open Idealize.ShloMosaic.Pipeline (Dat)

namespace Cert.Kernel2Ideal.OutValue

open Cert.Kernel2Ideal Cert.Kernel2Ideal.Gen

variable (m : (ℓ : Loc nD τ sig) → Buf (Elt Ideal) ℓ)

/-- The joined mixer outputs at row `r` of sequence `b`: the first local half, the four head pairs, the second local half. -/
def joined (yl : Vec Ideal S4x4096x512 .bf16) (ya : Vec Ideal S4x4x4096x128 .bf16) (b : Fin 4) (r : Fin 4096) (k : Fin 1024) : EReal :=
  if h : k.val < 256 then yl (ix3 b r ⟨k.val, by omega⟩)
  else if h' : k.val < 768 then ya (ix4 b ⟨(k.val - 256) / 128, by omega⟩ r ⟨(k.val - 256) % 128, by omega⟩)
  else yl (ix3 b r ⟨k.val - 512, by omega⟩)

/-- What the result array is shown to hold. -/
def outFn (x : Vec Ideal S4x4096x1024 .f32) (yl : Vec Ideal S4x4096x512 .bf16) (ya : Vec Ideal S4x4x4096x128 .bf16)
    (w : Vec Ideal S1x1024x1024 .f32) : Vec Ideal S4x4096x1024 .f32 := fun i =>
  x i + ∑ k : Fin 1024, joined yl ya (i 0) (i 1) k * w (ix3 0 k (i 2))

theorem idx : ∀ t : Fin grid0.N,
    win0_0.index t = ![t.val / 8, t.val % 8, 0] ∧ win0_1.index t = ![t.val / 8, t.val % 8, 0]
    ∧ win0_2.index t = ![t.val / 8, 0, t.val % 8, 0] ∧ win0_3.index t = ![0, 0] ∧ win0_4.index t = ![t.val / 8, t.val % 8, 0] := by
  decide +kernel

/-- The sequence that grid point `t` works on, and row `r` of its row block in that sequence. -/
def seqOf (t : Fin grid0.N) : Fin 4 := ⟨t.val / 8, by have := t.isLt; have h : grid0.N = 32 := N_0; omega⟩
def rowOf (t : Fin grid0.N) (r : Fin 512) : Fin 4096 := ⟨t.val % 8 * 512 + r.val, by have := r.isLt; omega⟩

theorem blk_x (c : Dev nD) (t : Fin grid0.N) (r : Fin 512) (l : Fin 1024) :
    iblk m c 0 t (ix3 0 r l) = m ((c : Thread nD τ).loc main_arg0) (ix3 (seqOf t) (rowOf t r) l) := by
  blk_ext [iblk, V, idx t, seqOf, rowOf]
theorem blk_yl (c : Dev nD) (t : Fin grid0.N) (r : Fin 512) (l : Fin 512) :
    iblk m c 1 t (ix3 0 r l) = m ((c : Thread nD τ).loc main_arg1) (ix3 (seqOf t) (rowOf t r) l) := by
  blk_ext [iblk, V, idx t, seqOf, rowOf]
theorem blk_ya (c : Dev nD) (t : Fin grid0.N) (p : Fin 4) (r : Fin 512) (l : Fin 128) :
    iblk m c 2 t (ix4 0 p r l) = m ((c : Thread nD τ).loc main_arg2) (ix4 (seqOf t) p (rowOf t r) l) := by
  blk_ext [iblk, V, idx t, seqOf, rowOf]
theorem blk_w (c : Dev nD) (t : Fin grid0.N) (k l : Fin 1024) :
    iblk m c 3 t (ix2 k l) = m ((c : Thread nD τ).loc main_arg3) (ix3 0 k l) := by
  unfold iblk
  blk_simp
  entry_read
  pointwise
  blk_ext [idx t]

theorem final (c : Dev nD) : (dats m 0 c).arrAt 4 cfg0.N
    = outFn (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  idx_vars y
  have he : (((View.whole main_v2).slice (win0_4.rect t)).emb (ix3 y0 y1 y2) : S4x4096x1024.Idx) = ix3 (seqOf t) (rowOf t y1) y2 := by
    blk_ext [idx t, seqOf, rowOf]
  rw [he]
  unfold outFn
  pointwise [k0_pay1, blk_x m c t, blk_yl m c t, blk_ya m c t, blk_w m c t]
  refine congrArg _ (Finset.sum_congr rfl fun k _ => congrArg (· * _) ?_)
  unfold joined
  have hk := k.isLt
  repeat' split
  all_goals first | (exfalso; omega) | (blk_ext [])

end Cert.Kernel2Ideal.OutValue

namespace Cert.Proof.Out

open Cert.Kernel2Ideal.OutValue

theorem frame_P : Cert.quiescent_Kernel2 := fun m ρ _ => Cert.Kernel2.Gen.frame m ρ
theorem frame_PI : Cert.quiescent_Kernel2Ideal := fun m ρ _ => Cert.Kernel2Ideal.Gen.frame m ρ
/-- The reference's run read at the arguments; it declares no semaphore. -/
theorem frame_RI : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hag
  refine ⟨_, (θ_run Cert.Kernel2Ideal.defs _ _).mono (fun _ h c => ⟨(h c).1.trans (final m c), (h c).2⟩)
    (Cert.Kernel2Ideal.Value.run_blocks (F := Ideal) m ρ), ?_⟩
  refine (θ_run Cert.Reference2Ideal.defs _ _).mono (fun _ h c => ⟨(h c).1.trans ?_, (h c).2⟩)
    (Cert.Reference2Ideal.Value.run (F := Ideal) m' ρ')
  rw [(hag c).1, (hag c).2.1, (hag c).2.2.1, (hag c).2.2.2]
  clean_types
  funext i
  idx_vars i
  unfold outFn
  pointwise
  refine congrArg _ (Finset.sum_congr rfl fun k _ => congrArg (· * _) ?_)
  unfold joined
  have hk := k.isLt
  repeat' split
  all_goals first | (exfalso; omega) | (blk_ext [])

end Cert.Proof.Out

end
-- ==== Proof.Lit3.lean ====
/- The block-diagonal matrix that the program carries as a table of words: its word at row `j`, lane `i` is 1/64 where
   the two belong to one head of 64, else 0.  A leaf of the table is one of three rows of 128 words. -/
module

public import proofs.«01_k».proof.Defs
public import proofs.«01_k».proof.Proof.Shared
public import Mathlib.Tactic.IntervalCases

@[expose] public section

set_option maxRecDepth 16384

namespace Cert.Kernel3Ideal.BdTable

open Cert.Proof.Shared (bdWord)

/-- The words of a leaf whose first 64 entries are 1/64. -/
theorem leafA (i : Nat) : lit0t0_0 i = if i % 128 < 64 then 0x3C80#16 else 0#16 := by
  have h : i % 128 < 128 := Nat.mod_lt _ (by decide)
  unfold lit0t0_0
  generalize i % 128 = n at h ⊢
  interval_cases n <;> rfl

/-- The words of a leaf that is zero. -/
theorem leafZ (i : Nat) : lit0t0_1 i = 0#16 := by
  have h : i % 128 < 128 := Nat.mod_lt _ (by decide)
  unfold lit0t0_1
  generalize i % 128 = n at h ⊢
  interval_cases n <;> rfl

/-- The words of a leaf whose last 64 entries are 1/64. -/
theorem leafB (i : Nat) : lit0t0_128 i = if i % 128 < 64 then 0#16 else 0x3C80#16 := by
  have h : i % 128 < 128 := Nat.mod_lt _ (by decide)
  unfold lit0t0_128
  generalize i % 128 = n at h ⊢
  interval_cases n <;> rfl

/-- The leaves of rows 0 to 63. -/
theorem quarter0 (i : Nat) : lit0t1_0 i = if (i / 128 % 128) % 2 = 0 then lit0t0_0 i else lit0t0_1 i := by
  have h : i / 128 % 128 < 128 := Nat.mod_lt _ (by decide)
  unfold lit0t1_0
  generalize i / 128 % 128 = n at h ⊢
  interval_cases n <;> rfl

/-- The leaves of rows 64 to 127. -/
theorem quarter1 (i : Nat) : lit0t1_1 i = if (i / 128 % 128) % 2 = 0 then lit0t0_128 i else lit0t0_1 i := by
  have h : i / 128 % 128 < 128 := Nat.mod_lt _ (by decide)
  unfold lit0t1_1
  generalize i / 128 % 128 = n at h ⊢
  interval_cases n <;> rfl

/-- The leaves of rows 128 to 191. -/
theorem quarter2 (i : Nat) : lit0t1_2 i = if (i / 128 % 128) % 2 = 1 then lit0t0_0 i else lit0t0_1 i := by
  have h : i / 128 % 128 < 128 := Nat.mod_lt _ (by decide)
  unfold lit0t1_2
  generalize i / 128 % 128 = n at h ⊢
  interval_cases n <;> rfl

/-- The leaves of rows 192 to 255. -/
theorem quarter3 (i : Nat) : lit0t1_3 i = if (i / 128 % 128) % 2 = 1 then lit0t0_128 i else lit0t0_1 i := by
  have h : i / 128 % 128 < 128 := Nat.mod_lt _ (by decide)
  unfold lit0t1_3
  generalize i / 128 % 128 = n at h ⊢
  interval_cases n <;> rfl

/-- The table's word at row `j`, lane `i`. -/
theorem word (j i : Fin 256) : lit0t (j.val * 256 + i.val) = bdWord j.val i.val := by
  have h : (j.val * 256 + i.val) / 16384 = j.val / 64 := by omega
  have h1 : (j.val * 256 + i.val) / 128 % 128 % 2 = i.val / 128 := by omega
  have h2 : (j.val * 256 + i.val) % 128 = i.val % 128 := by omega
  have hj : j.val / 64 < 4 := by omega
  unfold lit0t bdWord
  rw [h]
  generalize hq : j.val / 64 = q at hj ⊢
  interval_cases q
  · refine (quarter0 _).trans ?_
    rw [leafA, leafZ, h1, h2]
    repeat' split
    all_goals first | rfl | (exfalso; omega)
  · refine (quarter1 _).trans ?_
    rw [leafB, leafZ, h1, h2]
    repeat' split
    all_goals first | rfl | (exfalso; omega)
  · refine (quarter2 _).trans ?_
    rw [leafA, leafZ, h1, h2]
    repeat' split
    all_goals first | rfl | (exfalso; omega)
  · refine (quarter3 _).trans ?_
    rw [leafB, leafZ, h1, h2]
    repeat' split
    all_goals first | rfl | (exfalso; omega)

end Cert.Kernel3Ideal.BdTable
-- ==== Proof.MemkvValue.lean ====
/- The memory's keys and values (`kernel3`): the two arrays that the pipelined call leaves are the two halves of the
   normalised memory times its weights, the keys normalised again head by head. -/
module

public import proofs.«01_k».proof.Defs
public import proofs.«01_k».proof.Proof.Gen.Kernel3Ideal.Value
public import proofs.«01_k».proof.Proof.Gen.Reference3Ideal.Run
public import proofs.«01_k».proof.Proof.Gen.Kernel3.Frame
public import proofs.«01_k».proof.Proof.Lit3
public import Idealize.ShloMosaic.Lib.Pipeline.ValueKit
public import Idealize.ShloMosaic.Lib.Pointwise
public import Idealize.ShloMosaic.Lib.Quiescent
public import Idealize.ShloMosaic.Lib.Tactic.ValueTie

@[expose] public section

set_option maxRecDepth 16384

noncomputable section

open Idealize.ShloMosaic Idealize.ShloMosaic.TcCoe Idealize.SL.Sem
open Idealize.ShloMosaic.Pipeline (Dat)
open Cert.Proof.Shared

namespace Cert.Kernel3Ideal.MemkvValue

open Cert.Kernel3Ideal Cert.Kernel3Ideal.Gen

variable (m : (ℓ : Loc nD τ sig) → Buf (Elt Ideal) ℓ)

/-- Memory row `r` of sequence `b`, normalised, times column `j` of the weights. -/
def kv (x : Vec Ideal S4x256x1024 .f32) (g : Vec Ideal S1x1024 .f32) (w : Vec Ideal S1x1024x512 .f32)
    (b : Fin 4) (r : Fin 256) (j : Fin 512) : EReal :=
  ∑ k : Fin 1024, normRow (fun k => x (ix3 b r k)) (fun k => g (ix2 0 k)) k * w (ix3 0 k j)

/-- The first half of such a row. -/
def keyRow (x : Vec Ideal S4x256x1024 .f32) (g : Vec Ideal S1x1024 .f32) (w : Vec Ideal S1x1024x512 .f32)
    (b : Fin 4) (r : Fin 256) (j : Fin 256) : EReal := kv x g w b r ⟨j.val, by omega⟩

/-- What the two result arrays are shown to hold. -/
def keysFn (x : Vec Ideal S4x256x1024 .f32) (g : Vec Ideal S1x1024 .f32) (w : Vec Ideal S1x1024x512 .f32)
    (kg : Vec Ideal S1x64 .f32) : Vec Ideal S4x256x256 .bf16 := fun i =>
  keyRow x g w (i 0) (i 1) (i 2) * headScale (keyRow x g w (i 0) (i 1)) (headOf (i 2)) * kg (ix2 0 (inHead (i 2)))
def valuesFn (x : Vec Ideal S4x256x1024 .f32) (g : Vec Ideal S1x1024 .f32) (w : Vec Ideal S1x1024x512 .f32) :
    Vec Ideal S4x256x256 .bf16 := fun i => kv x g w (i 0) (i 1) ⟨256 + (i 2).val, by have h : (i 2).val < 256 := (i 2).isLt; omega⟩

theorem idx : ∀ t : Fin grid0.N,
    win0_0.index t = ![t.val, 0, 0] ∧ win0_1.index t = ![0, 0] ∧ win0_2.index t = ![0, 0] ∧ win0_3.index t = ![0, 0]
    ∧ win0_4.index t = ![0, 0] ∧ win0_5.index t = ![t.val, 0, 0] ∧ win0_6.index t = ![t.val, 0, 0] := by
  decide +kernel

/-- The sequence that grid point `t` works on. -/
def seqOf (t : Fin grid0.N) : Fin 4 := ⟨t.val, by have := t.isLt; have h : grid0.N = 4 := N_0; omega⟩

/-- The block-diagonal matrix, as the program's line of host operations begins with it. -/
def table : (⟨S256x256, .bf16⟩ : BufTy).Contents (Elt Ideal) := fun i => FloatOps.ofBits (F := Ideal) .bf16 (lit0 (S256x256.rowMajor i))

/-- The line of host operations, over any matrix in that place. -/
def line (T : (⟨S256x256, .bf16⟩ : BufTy).Contents (Elt Ideal)) : List (HloOp τ sig (Elt Ideal)) :=
  [ StableHlo.nullary main_cst T,
    StableHlo.reshape main_arg1 main_v0 (rfl : (.f32 : EltTy) = .f32) shapeCasts_S1x1024_S1024,
    StableHlo.unary main_v0 main_v1 (broadcastInDim S1x1024 ![1] bcast_S1024_S1x1024_1 : (⟨S1024, .f32⟩ : BufTy).Contents (Elt Ideal) → (⟨S1x1024, .f32⟩ : BufTy).Contents (Elt Ideal)),
    StableHlo.reshape main_arg2 main_v2 (rfl : (.f32 : EltTy) = .f32) shapeCasts_S1x1024x512_S1024x512,
    StableHlo.unary main_v2 main_v3 ((truncf (F := Ideal) .bf16 · bitsLt_bf16_f32) : (⟨S1024x512, .f32⟩ : BufTy).Contents (Elt Ideal) → (⟨S1024x512, .bf16⟩ : BufTy).Contents (Elt Ideal)),
    StableHlo.reshape main_arg3 main_v4 (rfl : (.f32 : EltTy) = .f32) shapeCasts_S1x64_S64,
    StableHlo.reshape main_v4 main_v5 (rfl : (.f32 : EltTy) = .f32) shapeCasts_S64_S1x64,
    StableHlo.unary main_v5 main_v6 (broadcastInDim S4x64 ![0, 1] bcast_S1x64_S4x64_0_1 : (⟨S1x64, .f32⟩ : BufTy).Contents (Elt Ideal) → (⟨S4x64, .f32⟩ : BufTy).Contents (Elt Ideal)),
    StableHlo.reshape main_v6 main_v7 (rfl : (.f32 : EltTy) = .f32) shapeCasts_S4x64_S256,
    StableHlo.unary main_v7 main_v8 (broadcastInDim S1x256 ![1] bcast_S256_S1x256_1 : (⟨S256, .f32⟩ : BufTy).Contents (Elt Ideal) → (⟨S1x256, .f32⟩ : BufTy).Contents (Elt Ideal)) ]

theorem V_eq (c : Dev nD) (b : Ref sig .tc) : V m c b = StableHlo.after (line table) (fun b => m (c, b)) b := rfl

theorem blk_x (c : Dev nD) (t : Fin grid0.N) (r : Fin 256) (l : Fin 1024) :
    iblk m c 0 t (ix3 0 r l) = m ((c : Thread nD τ).loc main_arg0) (ix3 (seqOf t) r l) := by
  unfold iblk
  blk_simp
  rw [V_main_arg0]
  blk_ext [idx t, seqOf]
theorem blk_g (c : Dev nD) (t : Fin grid0.N) (l : Fin 1024) :
    iblk m c 1 t (ix2 0 l) = m ((c : Thread nD τ).loc main_arg1) (ix2 0 l) := by
  unfold iblk
  blk_simp
  rw [V_eq]; generalize table = T; unfold line
  entry_read
  pointwise
  blk_ext [idx t]
theorem blk_w (c : Dev nD) (t : Fin grid0.N) (k : Fin 1024) (l : Fin 512) :
    iblk m c 2 t (ix2 k l) = m ((c : Thread nD τ).loc main_arg2) (ix3 0 k l) := by
  unfold iblk
  blk_simp
  rw [V_eq]; generalize table = T; unfold line
  entry_read
  pointwise
  blk_ext [idx t]
theorem blk_kg (c : Dev nD) (t : Fin grid0.N) (l : Fin 256) :
    iblk m c 3 t (ix2 0 l) = m ((c : Thread nD τ).loc main_arg3) (ix2 0 (inHead l)) := by
  unfold iblk
  blk_simp
  rw [V_eq]; generalize table = T; unfold line
  entry_read
  pointwise
  blk_ext [idx t, inHead]

theorem table_at (j i : Fin 256) : table (ix2 j i) = Ideal.ofBits .bf16 (bdWord j.val i.val) := by
  have h : (S256x256.rowMajor (ix2 j i)).val = j.val * 256 + i.val := Shape.rowMajor_val_two _
  have e : ∀ n : Fin 65536, n.val = j.val * 256 + i.val → lit0 n = bdWord j.val i.val := by
    intro n hn
    rw [← BdTable.word j i, ← hn]
  unfold table
  rw [e _ h]
  rfl

theorem blk_bd (c : Dev nD) (t : Fin grid0.N) (j i : Fin 256) :
    iblk m c 4 t (ix2 j i) = Ideal.ofBits .bf16 (bdWord j.val i.val) := by
  rw [← table_at]
  unfold iblk
  blk_simp
  rw [V_eq]; generalize table = T; unfold line
  entry_read
  blk_ext [idx t]

theorem pay2_at (x : Vec Ideal S1x256x1024 .f32) (g : Vec Ideal S1x1024 .f32) (w : Vec Ideal S1024x512 .bf16) (r : Fin 256) (j : Fin 512) :
    k0_pay2 x g w (ix2 r j) = ∑ k : Fin 1024, normRow (fun k => x (ix3 0 r k)) (fun k => g (ix2 0 k)) k * w (ix2 k j) := by
  unfold normRow
  pointwise [k0_pay2]

theorem pay3_at (x : Vec Ideal S1x256x1024 .f32) (g : Vec Ideal S1x1024 .f32) (w : Vec Ideal S1024x512 .bf16)
    (bd : Vec Ideal S256x256 .bf16) (hbd : ∀ j i : Fin 256, bd (ix2 j i) = Ideal.ofBits .bf16 (bdWord j.val i.val))
    (kg : Vec Ideal S1x256 .f32) (r i : Fin 256) :
    k0_pay3 x g w bd kg (ix3 0 r i) = k0_pay2 x g w (ix2 r ⟨i.val, by omega⟩)
      * headScale (fun j => k0_pay2 x g w (ix2 r ⟨j.val, by omega⟩)) (headOf i) * kg (ix2 0 i) := by
  rw [← headScale_at]
  unfold k0_pay3
  generalize k0_pay2 x g w = kv
  pointwise [hbd]

/-- The row that a grid point computes is the row of the whole. -/
theorem row_at (c : Dev nD) (t : Fin grid0.N) (r : Fin 256) (j : Fin 512) :
    k0_pay2 (iblk m c 0 t) (iblk m c 1 t) (iblk m c 2 t) (ix2 r j)
      = kv (m ((c : Thread nD τ).loc main_arg0)) (m ((c : Thread nD τ).loc main_arg1)) (m ((c : Thread nD τ).loc main_arg2)) (seqOf t) r j := by
  refine (pay2_at _ _ _ r j).trans ?_
  unfold kv
  simp only [blk_x m c t, blk_g m c t, blk_w m c t]

theorem final5 (c : Dev nD) : (dats m 0 c).arrAt 5 cfg0.N
    = keysFn (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  have he : (((View.whole main_v9_0).slice (win0_5.rect t)).emb (ix3 y0 y1 y2) : S4x256x256.Idx) = ix3 (seqOf t) y1 y2 := by
    blk_ext [idx t, seqOf]
  rw [he]
  obtain rfl : y0 = 0 := Subsingleton.elim _ _
  refine (pay3_at _ _ _ _ (blk_bd m c t) _ y1 y2).trans ?_
  simp only [row_at m c t, blk_kg m c t]
  rfl

theorem final6 (c : Dev nD) : (dats m 0 c).arrAt 6 cfg0.N
    = valuesFn (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  idx_vars y
  have he : (((View.whole main_v9_1).slice (win0_6.rect t)).emb (ix3 y0 y1 y2) : S4x256x256.Idx) = ix3 (seqOf t) y1 y2 := by
    blk_ext [idx t, seqOf]
  rw [he]
  pointwise [k0_pay1, k0_pay4]
  exact row_at m c t y1 _

end Cert.Kernel3Ideal.MemkvValue

namespace Cert.Proof.Memkv

open Cert.Kernel3Ideal.MemkvValue

theorem frame_P : Cert.quiescent_Kernel3 := fun m ρ _ => Cert.Kernel3.Gen.frame m ρ
theorem frame_PI : Cert.quiescent_Kernel3Ideal := fun m ρ _ => Cert.Kernel3Ideal.Gen.frame m ρ
/-- The reference's run read at the arguments; it declares no semaphore. -/
theorem frame_RI : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hag
  refine ⟨_, _, (θ_run Cert.Kernel3Ideal.defs _ _).mono (fun _ h c => ⟨(h c).1.trans (final5 m c), (h c).2.1.trans (final6 m c), (h c).2.2⟩)
    (Cert.Kernel3Ideal.Value.run_blocks (F := Ideal) m ρ), ?_⟩
  refine (θ_run Cert.Reference3Ideal.defs _ _).mono (fun _ h c => ⟨(h c).1.trans ?_, (h c).2.1.trans ?_, (h c).2.2⟩)
    (Cert.Reference3Ideal.Value.run (F := Ideal) m' ρ')
  · rw [(hag c).1, (hag c).2.1, (hag c).2.2.1, (hag c).2.2.2]
    clean_types
    funext i
    idx_vars i
    unfold keysFn keyRow headScale kv normRow
    pointwise
    rfl
  · rw [(hag c).1, (hag c).2.1, (hag c).2.2.1]
    clean_types
    funext i
    idx_vars i
    unfold valuesFn kv normRow
    pointwise

end Cert.Proof.Memkv

end
-- ==== Proof.lean ====
/- The claims about the projection call, the output projection and the memory's keys and values, put together.
   Each call has modules of its own: `ProjBlocks`, `ProjRows`, `ProjMix`, `ProjMem`, `ProjFinal` (what the projection
   call's arrays hold), `Soft` (the quotient of a read), `ProjRef` and `ProjValue` (its reference and the equation);
   `OutValue`; `MemkvValue`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.ProjValue
public import proofs.«01_k».proof.Proof.OutValue
public import proofs.«01_k».proof.Proof.MemkvValue
public import Idealize.ShloMosaic.Adequacy
public import Idealize.ShloMosaic.Init

@[expose] public section

noncomputable section

namespace Cert.Proof

open Idealize.ShloMosaic Idealize.SL.Sem Cert.Kernel

/-- Every claim of the certificate, from the modules on the three calls. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Proj.pre,
  Proj.frame_P, Proj.frame_PI, Proj.frame_PI_pre, Proj.frame_RI, Proj.frame_RI_pre,
  Out.frame_P, Out.frame_PI, Out.frame_RI,
  Memkv.frame_P, Memkv.frame_PI, Memkv.frame_RI,
  Proj.preserves, Proj.algebraic, Out.preserves, Out.algebraic, Memkv.preserves, Memkv.algebraic⟩

end Cert.Proof

end
